-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S2x128x512 1 × IVec S512x256 1 × IVec S2x128x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4x64 .f32 := Host.absf main_arg2
  let main_cst_1 : FVec F S_ .f32 := constant S_ .f32 0x7F800000#32
  let main_v7 : FVec F S2x128x4x64 .f32 := broadcastInDim S2x128x4x64 ![] bcast_S_S2x128x4x64 main_cst_1
  let main_v8 : IVec S2x128x4x64 1 := cmpf .olt main_v6 main_v7
  (main_v2, main_v5, main_v8)
-- ==== Pre_finite_scores_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x128x512 .f32) (main_arg1 : FVec F S512x256 .f32) (main_arg2 : FVec F S2x512x4x64 .f32) (main_arg3 : FVec F S2x512x4x64 .f32) (main_arg4 : FVec F S256x512 .f32) : IVec S2x128x512 1 × IVec S512x256 1 × IVec S2x512x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x512x4x64 .f32 := Host.absf main_arg2
  let main_cst_1 : FVec F S_ .f32 := constant S_ .f32 0x7F800000#32
  let main_v7 : FVec F S2x512x4x64 .f32 := broadcastInDim S2x512x4x64 ![] bcast_S_S2x512x4x64 main_cst_1
  let main_v8 : IVec S2x512x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x4x64x128 : Shape := ⟨4, ![2, 4, 64, 128]⟩
abbrev S512x128 : Shape := ⟨2, ![512, 128]⟩
abbrev S1024x128 : Shape := ⟨2, ![1024, 128]⟩
abbrev S2x1024x128 : Shape := ⟨3, ![2, 1024, 128]⟩
abbrev S4 : Shape := ⟨1, ![4]⟩
abbrev S2x2 : Shape := ⟨2, ![2, 2]⟩
abbrev S_ : Shape := ⟨0, ![]⟩
abbrev S1 : Shape := ⟨1, ![1]⟩
abbrev S1x1 : Shape := ⟨2, ![1, 1]⟩
abbrev S1x512x128 : Shape := ⟨3, ![1, 512, 128]⟩
abbrev S1x1024x128 : Shape := ⟨3, ![1, 1024, 128]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S128x64 : Shape := ⟨2, ![128, 64]⟩
abbrev S1x64x128 : Shape := ⟨3, ![1, 64, 128]⟩
abbrev S64x128 : Shape := ⟨2, ![64, 128]⟩
abbrev S128 : Shape := ⟨1, ![128]⟩
abbrev S128x1 : Shape := ⟨2, ![128, 1]⟩

abbrev nBuf : Space → Nat
  | .hbm => 15
  | .vmem => 6
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x4x64x128, .f32⟩
  | .hbm, ⟨6, _⟩ => ⟨S512x128, .f32⟩
  | .hbm, ⟨7, _⟩ => ⟨S2x4x64x128, .f32⟩
  | .hbm, ⟨8, _⟩ => ⟨S512x128, .f32⟩
  | .hbm, ⟨9, _⟩ => ⟨S1024x128, .f32⟩
  | .hbm, ⟨10, _⟩ => ⟨S1024x128, .bf16⟩
  | .hbm, ⟨11, _⟩ => ⟨S2x128x512, .bf16⟩
  | .hbm, ⟨12, _⟩ => ⟨S512x256, .bf16⟩
  | .hbm, ⟨13, _⟩ => ⟨S256x512, .bf16⟩
  | .hbm, ⟨14, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S1024x128, .bf16⟩
  | .local _ .vmem, ⟨3, _⟩ => ⟨S256x512, .bf16⟩
  | .local _ .vmem, ⟨4, _⟩ => ⟨S2x128x512, .f32⟩
  | .local _ .vmem, ⟨5, _⟩ => ⟨S2x1024x128, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_10 : BitVec 32 := 0#32
  let v13 : BitVec 1 := Scalar.cmpi .eq v2 c0_i32_10
  let v14 : BitVec 32 := Scalar.extui v13
  let c0_i32_11 : BitVec 32 := 0#32
  let v15 : BitVec 1 := Scalar.cmpi .ne v14 c0_i32_11
  v15

def k0_dev3 : Nat :=
  let c0_i32_269 : BitVec 32 := 0#32
  let c3_i32_267 : BitVec 32 := 3#32
  let c1_i32_268 : BitVec 32 := 1#32
  let v566 : BitVec 32 := Scalar.muli c3_i32_267 c1_i32_268
  let v567 : BitVec 32 := Scalar.addi c0_i32_269 v566
  v567.toNat
def k0_dev4 : Nat :=
  let c0_i32_280 : BitVec 32 := 0#32
  let c3_i32_278 : BitVec 32 := 3#32
  let c1_i32_279 : BitVec 32 := 1#32
  let v575 : BitVec 32 := Scalar.muli c3_i32_278 c1_i32_279
  let v576 : BitVec 32 := Scalar.addi c0_i32_280 v575
  v576.toNat
def k0_dev5 : Nat :=
  let c0_i32_291 : BitVec 32 := 0#32
  let c1_i32_289 : BitVec 32 := 1#32
  let c1_i32_290 : BitVec 32 := 1#32
  let v584 : BitVec 32 := Scalar.muli c1_i32_289 c1_i32_290
  let v585 : BitVec 32 := Scalar.addi c0_i32_291 v584
  v585.toNat
def k0_dev6 : Nat :=
  let c0_i32_302 : BitVec 32 := 0#32
  let c1_i32_300 : BitVec 32 := 1#32
  let c1_i32_301 : BitVec 32 := 1#32
  let v593 : BitVec 32 := Scalar.muli c1_i32_300 c1_i32_301
  let v594 : BitVec 32 := Scalar.addi c0_i32_302 v593
  v594.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v16 : BitVec 1 := Scalar.cmpi .eq v2 c1_i32_12
  let v17 : BitVec 32 := Scalar.extui v16
  let c0_i32_13 : BitVec 32 := 0#32
  let v18 : BitVec 1 := Scalar.cmpi .ne v17 c0_i32_13
  v18

def k0_dev7 : Nat :=
  let c0_i32_269 : BitVec 32 := 0#32
  let c2_i32_267 : BitVec 32 := 2#32
  let c1_i32_268 : BitVec 32 := 1#32
  let v566 : BitVec 32 := Scalar.muli c2_i32_267 c1_i32_268
  let v567 : BitVec 32 := Scalar.addi c0_i32_269 v566
  v567.toNat
def k0_dev8 : Nat :=
  let c0_i32_280 : BitVec 32 := 0#32
  let c2_i32_278 : BitVec 32 := 2#32
  let c1_i32_279 : BitVec 32 := 1#32
  let v575 : BitVec 32 := Scalar.muli c2_i32_278 c1_i32_279
  let v576 : BitVec 32 := Scalar.addi c0_i32_280 v575
  v576.toNat
def k0_dev9 : Nat :=
  let c0_i32_291 : BitVec 32 := 0#32
  let c0_i32_289 : BitVec 32 := 0#32
  let c1_i32_290 : BitVec 32 := 1#32
  let v584 : BitVec 32 := Scalar.muli c0_i32_289 c1_i32_290
  let v585 : BitVec 32 := Scalar.addi c0_i32_291 v584
  v585.toNat
def k0_dev10 : Nat :=
  let c0_i32_302 : BitVec 32 := 0#32
  let c0_i32_300 : BitVec 32 := 0#32
  let c1_i32_301 : BitVec 32 := 1#32
  let v593 : BitVec 32 := Scalar.muli c0_i32_300 c1_i32_301
  let v594 : BitVec 32 := Scalar.addi c0_i32_302 v593
  v594.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_23 : BitVec 32 := 2#32
  let v31 : BitVec 1 := Scalar.cmpi .eq v2 c2_i32_23
  let v32 : BitVec 32 := Scalar.extui v31
  let c0_i32_24 : BitVec 32 := 0#32
  let v33 : BitVec 1 := Scalar.cmpi .ne v32 c0_i32_24
  v33

def k0_dev11 : Nat :=
  let c0_i32_281 : BitVec 32 := 0#32
  let c3_i32_279 : BitVec 32 := 3#32
  let c1_i32_280 : BitVec 32 := 1#32
  let v574 : BitVec 32 := Scalar.muli c3_i32_279 c1_i32_280
  let v575 : BitVec 32 := Scalar.addi c0_i32_281 v574
  v575.toNat
def k0_dev12 : Nat :=
  let c0_i32_304 : BitVec 32 := 0#32
  let c3_i32_302 : BitVec 32 := 3#32
  let c1_i32_303 : BitVec 32 := 1#32
  let v592 : BitVec 32 := Scalar.muli c3_i32_302 c1_i32_303
  let v593 : BitVec 32 := Scalar.addi c0_i32_304 v592
  v593.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v34 : BitVec 1 := Scalar.cmpi .eq v2 c3_i32
  let v35 : BitVec 32 := Scalar.extui v34
  let c0_i32_25 : BitVec 32 := 0#32
  let v36 : BitVec 1 := Scalar.cmpi .ne v35 c0_i32_25
  v36

def k0_dev13 : Nat :=
  let c0_i32_281 : BitVec 32 := 0#32
  let c2_i32_279 : BitVec 32 := 2#32
  let c1_i32_280 : BitVec 32 := 1#32
  let v574 : BitVec 32 := Scalar.muli c2_i32_279 c1_i32_280
  let v575 : BitVec 32 := Scalar.addi c0_i32_281 v574
  v575.toNat
def k0_dev14 : Nat :=
  let c0_i32_304 : BitVec 32 := 0#32
  let c2_i32_302 : BitVec 32 := 2#32
  let c1_i32_303 : BitVec 32 := 1#32
  let v592 : BitVec 32 := Scalar.muli c2_i32_302 c1_i32_303
  let v593 : BitVec 32 := Scalar.addi c0_i32_304 v592
  v593.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S_ : Shape := ⟨0, ![]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x512x4x64, .f32⟩
  | .hbm, ⟨3, _⟩ => ⟨S2x512x4x64, .f32⟩
  | .hbm, ⟨4, _⟩ => ⟨S256x512, .f32⟩
  | .hbm, ⟨5, _⟩ => ⟨S2x128x256, .f32⟩
  | .hbm, ⟨6, _⟩ => ⟨S2x128x4x64, .f32⟩
  | .hbm, ⟨7, _⟩ => ⟨S128, .i32⟩
  | .hbm, ⟨8, _⟩ => ⟨S128x1, .i32⟩
  | .hbm, ⟨9, _⟩ => ⟨S512, .i32⟩
  | .hbm, ⟨10, _⟩ => ⟨S1x512, .i32⟩
  | .hbm, ⟨11, _⟩ => ⟨S128x512, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S_, .i32⟩
  | .hbm, ⟨16, _⟩ => ⟨S128x512, .i32⟩
  | .hbm, ⟨17, _⟩ => ⟨S128x512, .i1⟩
  | .hbm, ⟨18, _⟩ => ⟨S2x4x128x512, .f32⟩
  | .hbm, ⟨19, _⟩ => ⟨S_, .f32⟩
  | .hbm, ⟨20, _⟩ => ⟨S2x4x128x512, .f32⟩
  | .hbm, ⟨21, _⟩ => ⟨S2x4x128x512, .f32⟩
  | .hbm, ⟨22, _⟩ => ⟨S1x1x128x512, .i1⟩
  | .hbm, ⟨23, _⟩ => ⟨S_, .f32⟩
  | .hbm, ⟨24, _⟩ => ⟨S_, .f32⟩
  | .hbm, ⟨25, _⟩ => ⟨S2x4x128x512, .i1⟩
  | .hbm, ⟨26, _⟩ => ⟨S2x4x128x512, .f32⟩
  | .hbm, ⟨27, _⟩ => ⟨S2x4x128x512, .f32⟩
  | .hbm, ⟨28, _⟩ => ⟨S_, .f32⟩
  | .hbm, ⟨29, _⟩ => ⟨S2x4x128, .f32⟩
  | .hbm, ⟨30, _⟩ => ⟨S2x4x128x1, .f32⟩
  | .hbm, ⟨31, _⟩ => ⟨S2x4x128x512, .f32⟩
  | .hbm, ⟨32, _⟩ => ⟨S2x4x128x512, .f32⟩
  | .hbm, ⟨33, _⟩ => ⟨S2x4x128x512, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x4x128, .f32⟩
  | .hbm, ⟨39, _⟩ => ⟨S2x4x128x1, .f32⟩
  | .hbm, ⟨40, _⟩ => ⟨S_, .f32⟩
  | .hbm, ⟨41, _⟩ => ⟨S_, .f32⟩
  | .hbm, ⟨42, _⟩ => ⟨S2x4x128x1, .i1⟩
  | .hbm, ⟨43, _⟩ => ⟨S2x4x128x1, .f32⟩
  | .hbm, ⟨44, _⟩ => ⟨S2x4x128x1, .f32⟩
  | .hbm, ⟨45, _⟩ => ⟨S2x4x128x512, .f32⟩
  | .hbm, ⟨46, _⟩ => ⟨S2x4x128x512, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x4x128x512, .i1⟩
  | .hbm, ⟨51, _⟩ => ⟨S2x4x128x512, .f32⟩
  | .hbm, ⟨52, _⟩ => ⟨S2x4x128x512, .f32⟩
  | .hbm, ⟨53, _⟩ => ⟨S2x4x64x128, .f32⟩
  | .hbm, ⟨54, _⟩ => ⟨S2x128x4x64, .f32⟩
  | .hbm, ⟨55, _⟩ => ⟨S2x128x256, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Sched.lean ====
/-
# `Sched`: who sends what to whom

Devices 0 and 1 own the two key/value blocks that the mask leaves; devices 2 and 3 relay them. Each device talks to two
others only: its SIBLING (0↔1, 2↔3) and its MATE (0↔3, 1↔2). The gathered buffer has two slots of two windows: slot 0
holds the block of `fsrc c` (the device's own, or its mate's), slot 1 the sibling's slot 0.

* An owner copies its block to its mate's slot 0 and to its sibling's slot 1, and stores it in its own slot 0.
* A relay forwards each window of its slot 0, as it lands, to its sibling's slot 1.
* Before any copy every device signals both others: the signal hands over the windows that the other will write.

The schedule of the rounds library below says just that: one round, duty `true` of a barrier cell paid by the sibling and
`false` by the mate, one duty on every DMA cell that a copy uses.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The two partners -/

/-- The sibling: the other owner of an owner, the other relay of a relay. -/
def sib (c : Dev nD) : Dev nD := (![1, 0, 3, 2] : Fin 4 → Fin 4) c
/-- The mate: the relay that an owner feeds, the owner that feeds a relay. -/
def mate (c : Dev nD) : Dev nD := (![3, 2, 1, 0] : Fin 4 → Fin 4) c
/-- A sibling's sibling is the device itself. -/
theorem sib_sib (c : Dev nD) : sib (sib c) = c := by revert c; decide
/-- A mate's mate is the device itself. -/
theorem mate_mate (c : Dev nD) : mate (mate c) = c := by revert c; decide
def sibE : Dev nD ≃ Dev nD := ⟨sib, sib, sib_sib, sib_sib⟩
def mateE : Dev nD ≃ Dev nD := ⟨mate, mate, mate_mate, mate_mate⟩

/-- The devices that own a block which the mask leaves. -/
abbrev own (c : Dev nD) : Prop := c.val < 2
/-- An owner's mate is a relay, and a relay's an owner. -/
theorem own_mate (c : Dev nD) : own (mate c) ↔ ¬ own c := by revert c; decide
/-- Siblings are both owners or both relays. -/
theorem own_sib (c : Dev nD) : own (sib c) ↔ own c := by revert c; decide

/-- Whose block slot 0 of device `c` holds, and whose slot 1. -/
def fsrc (c : Dev nD) : Dev nD := if own c then c else mate c
def ssrc (c : Dev nD) : Dev nD := fsrc (sib c)
/-- An owner's slot 0 holds its own block. -/
theorem fsrc_own (c : Dev nD) (h : own c) : fsrc c = c := if_pos h
/-- The relay of an owner holds the owner's block in slot 0. -/
theorem fsrc_mate (c : Dev nD) (h : own c) : fsrc (mate c) = c := by revert c; decide
/-- A device's sibling holds in slot 1 what the device holds in slot 0. -/
theorem ssrc_sib (c : Dev nD) : ssrc (sib c) = fsrc c := by unfold ssrc; rw [sib_sib]

/-! ## The memrefs, the semaphores, the cells -/

abbrev xM : Memref sig .tc .vmem S2x128x512 .bf16 := Memref.whole cc0_stg0_0
abbrev qM : Memref sig .tc .vmem S512x256 .bf16 := Memref.whole cc0_stg1_0
abbrev kM : Memref sig .tc .vmem S1024x128 .bf16 := Memref.whole cc0_stg2_0
abbrev wM : Memref sig .tc .vmem S256x512 .bf16 := Memref.whole cc0_stg3_0
abbrev oM : Memref sig .tc .vmem S2x128x512 .f32 := Memref.whole cc0_stg4_0
abbrev gM : Memref sig .tc .vmem S2x1024x128 .bf16 := Memref.whole cc0_scratch0

/-- A half of a slot lies in the gathered buffer. -/
theorem inbG (s h : Fin 2) : ∀ a, (![s.val, 512 * h.val, 0] : Fin 3 → ℕ) a + S1x512x128.size a ≤ S2x1024x128.size a := by
  revert s h; decide
/-- A half of the own block lies in it. -/
theorem inbK (h : Fin 2) : ∀ a, (![512 * h.val, 0] : Fin 2 → ℕ) a + S512x128.size a ≤ S1024x128.size a := by
  revert h; decide

/-- Window `h` of slot `s` of the gathered buffer: 512 rows, as the copies name it. -/
abbrev gWin (s h : Fin 2) : Memref sig .tc .vmem S512x128 .bf16 :=
  (gM.slice (Rect.unit (s := S2x1024x128) ![s.val, 512 * h.val, 0] S1x512x128.size (inbG s h)) (fun _ => rfl)).squeeze S512x128 squeezes_S1x512x128_S512x128
/-- Window `h` of the device's own staged block. -/
abbrev kWin (h : Fin 2) : Memref sig .tc .vmem S512x128 .bf16 :=
  kM.slice (Rect.unit (s := S1024x128) ![512 * h.val, 0] S512x128.size (inbK h)) (fun _ => rfl)

abbrev barS : Sem sig := (sig.barrier 0 rfl)
set_option backward.proofsInPublic true in
def sendS (i : Fin 4) : DmaSem sig := ⟨5 + i.val, lt_of_lt_of_le (Nat.add_lt_add_left i.isLt 5) (by decide)⟩
set_option backward.proofsInPublic true in
def recvS (s h : Fin 2) : DmaSem sig := ⟨9 + 2 * s.val + h.val, by have := s.isLt; have := h.isLt; have : 13 ≤ sig.nDmaSem := by decide
                                                                   omega⟩

abbrev barCell (c : Dev nD) : GSem nD τ sig := ((c : Thread nD τ), .reg barS)
abbrev sendCell (c : Dev nD) (i : Fin 4) : GSem nD τ sig := ((c : Thread nD τ), .dma (sendS i))
abbrev recvCell (c : Dev nD) (s h : Fin 2) : GSem nD τ sig := ((c : Thread nD τ), .dma (recvS s h))

/-- The send semaphores and the receive semaphores, as the body names them. -/
theorem sendS_0 : ((cc0_scratch1.slice (Rect.unit (s := S4) ![0] ![1] inb_S4_S1_0)).squeeze S_ squeezes_S1_S_).sem = sendS 0 := rfl
theorem sendS_1 : ((cc0_scratch1.slice (Rect.unit (s := S4) ![1] ![1] inb_S4_S1_1)).squeeze S_ squeezes_S1_S_).sem = sendS 1 := rfl
theorem sendS_2 : ((cc0_scratch1.slice (Rect.unit (s := S4) ![2] ![1] inb_S4_S1_2)).squeeze S_ squeezes_S1_S_).sem = sendS 2 := rfl
theorem sendS_3 : ((cc0_scratch1.slice (Rect.unit (s := S4) ![3] ![1] inb_S4_S1_3)).squeeze S_ squeezes_S1_S_).sem = sendS 3 := rfl
theorem recvS_00 : ((cc0_scratch2.slice (Rect.unit (s := S2x2) ![0, 0] ![1, 1] inb_S2x2_S1x1_0_0)).squeeze S_ squeezes_S1x1_S_).sem = recvS 0 0 := rfl
theorem recvS_01 : ((cc0_scratch2.slice (Rect.unit (s := S2x2) ![0, 1] ![1, 1] inb_S2x2_S1x1_0_1)).squeeze S_ squeezes_S1x1_S_).sem = recvS 0 1 := rfl
theorem recvS_10 : ((cc0_scratch2.slice (Rect.unit (s := S2x2) ![1, 0] ![1, 1] inb_S2x2_S1x1_1_0)).squeeze S_ squeezes_S1x1_S_).sem = recvS 1 0 := rfl
theorem recvS_11 : ((cc0_scratch2.slice (Rect.unit (s := S2x2) ![1, 1] ![1, 1] inb_S2x2_S1x1_1_1)).squeeze S_ squeezes_S1x1_S_).sem = recvS 1 1 := rfl

/-- The halves of the slots, as the body names them. -/
theorem gWin_00 : (gM.slice (Rect.unit (s := S2x1024x128) ![0, 0, 0] S1x512x128.size inb_S2x1024x128_S1x512x128_0_0_0) (fun _ => rfl)).squeeze S512x128 squeezes_S1x512x128_S512x128 = gWin 0 0 := rfl
/-- The last half likewise. -/
theorem gWin_11 : (gM.slice (Rect.unit (s := S2x1024x128) ![1, 512, 0] S1x512x128.size inb_S2x1024x128_S1x512x128_1_512_0) (fun _ => rfl)).squeeze S512x128 squeezes_S1x512x128_S512x128 = gWin 1 1 := rfl

/-- The credit of one copy. -/
def N : ℕ := (gWin 0 0).view.dmaCredit
/-- A landing pays something. -/
theorem N_pos : 0 < N := View.dmaCredit_pos _ (by decide)
/-- Every half of a slot pays the same. -/
theorem credit_gWin (s h : Fin 2) : (gWin s h).view.dmaCredit = N := rfl

/-! ## Contents -/

/-- The block that device `c` staged: its keys over its values, as the region finds them. -/
def kvb (c : Dev nD) : (cc0_stg2_0 : Ref sig .tc).ty.Contents (Elt F) := iblk m c 2 t0_0

/-- What the gathered buffer holds once everything has landed. -/
def gV (c : Dev nD) : (cc0_scratch0 : Ref sig .tc).ty.Contents (Elt F) := fun i =>
  if (i 0).val = 0 then kvb m (fsrc c) (fun a => i a.succ) else kvb m (ssrc c) (fun a => i a.succ)

/-- A window of the gathered buffer, held at a share. -/
def gPts (q : PosShare TreeShare) (c : Dev nD) (s h : Fin 2) (f : (cc0_scratch0 : Ref sig .tc).ty.Contents (Elt F)) : sProp 𝕄 :=
  (gWin s h).view.loc (c : Thread nD τ) ↦[(gWin s h).view.set]{q} f
/-- A window of the staged block, held at a share. -/
def kPts (q : PosShare TreeShare) (c : Dev nD) (h : Fin 2) : sProp 𝕄 :=
  (kWin h).view.loc (c : Thread nD τ) ↦[(kWin h).view.set]{q} kvb m c

omit [FloatOps F] [Named F] in
/-- What the holdings of the buffers say may be handed over through a cell. -/
instance gPts_storable (q) (c : Dev nD) (s h) (f) : BI.Storable (upEmb : UEmb _ 𝕄) (gPts (F := F) q c s h f) := by unfold gPts; infer_instance
instance kPts_storable (q) (c : Dev nD) (h) : BI.Storable (upEmb : UEmb _ 𝕄) (kPts (F := F) m q c h) := by unfold kPts; infer_instance

end Cert.Swa
-- ==== Proof.Proto.lean ====
/-
# `Proto`: the schedule of the cells, the tallies and the levels
-/
module

public import proofs.«01_k».proof.Proof.Sched

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The schedule -/

/-- What the sibling of `d` hands over with its signal: its slot 1, and that its receive cells of slot 1 are open. -/
def barPayT (d : Dev nD) : sProp 𝕄 :=
  iprop((∃ f, gPts fullShare (sib d) 1 0 f) ∗ (∃ f, gPts fullShare (sib d) 1 1 f) ∗ reached ER (recvCell (sib d) 1 0) 0 ∗ reached ER (recvCell (sib d) 1 1) 0)
/-- What the mate of `d` hands over: its slot 0 and the receive cells of it when `d` is an owner, nothing else. -/
def barPayF (d : Dev nD) : sProp 𝕄 :=
  if own d then iprop((∃ f, gPts fullShare (mate d) 0 0 f) ∗ (∃ f, gPts fullShare (mate d) 0 1 f) ∗ reached ER (recvCell (mate d) 0 0) 0 ∗ reached ER (recvCell (mate d) 0 1) 0)
  else iprop(emp)

/-- The share of its source that the copy `i` of device `c` carries, and the source. -/
def sendPay (c : Dev nD) (i : ℕ) : sProp 𝕄 :=
  if own c then (match i with
    | 0 => kPts m fullShare.right.left c 0
    | 1 => kPts m fullShare.right.left c 1
    | 2 => kPts m fullShare.right.right c 0
    | _ => kPts m fullShare.right.right c 1)
  else (match i with
    | 0 => gPts fullShare.right c 0 0 (gV m c)
    | _ => gPts fullShare.right c 0 1 (gV m c))

/-- Which cells of device `c` a round pays: its barrier cell, the send cells of the copies it makes, the receive cells of
    the copies that reach it. -/
def live (c : Dev nD) (sm : SemLoc sig) : Prop :=
  match sm with
  | .reg _ => True
  | .dma q => q.val = 5 ∨ q.val = 6 ∨ (own c ∧ (q.val = 7 ∨ q.val = 8)) ∨ (¬ own c ∧ (q.val = 9 ∨ q.val = 10)) ∨ q.val = 11 ∨ q.val = 12

instance (c : Dev nD) (sm : SemLoc sig) : Decidable (live c sm) := by unfold live; cases sm <;> infer_instance

/-- What a DMA cell of device `c` pays. -/
def dmaPay (c : Dev nD) (q : ℕ) : sProp 𝕄 :=
  if q < 9 then sendPay m c (q - 5)
  else if q = 9 then gPts fullShare c 0 0 (gV m c)
  else if q = 10 then gPts fullShare c 0 1 (gV m c)
  else if q = 11 then gPts fullShare c 1 0 (gV m c)
  else gPts fullShare c 1 1 (gV m c)

def Rd : Rounds.Schedule (GSem nD τ sig) Bool 𝕄 where
  duties g r := if r = 0 ∧ g.1.2 = .tc ∧ live g.1.1 g.2 then (if g.2.isDma then {false} else Finset.univ) else ∅
  unitless _ := False
  amount g _ _ := if g.2.isDma then N else 1
  payload g _ d := match g.2 with
    | .reg _ => if d then barPayT g.1.1 else barPayF g.1.1
    | .dma q => dmaPay m g.1.1 q.val
  amount_pos g _ _ _ := by
    by_cases h : g.2.isDma
    · rw [if_pos h]; exact N_pos
    · rw [if_neg h]; exact Nat.one_pos

/-- Every payload of the schedule may be kept in a cell. -/
instance sendPay_storable (c : Dev nD) (i) : BI.Storable (upEmb : UEmb _ 𝕄) (sendPay (F := F) m c i) := by
  unfold sendPay; (repeat' split) <;> infer_instance
instance dmaPay_storable (c : Dev nD) (q) : BI.Storable (upEmb : UEmb _ 𝕄) (dmaPay (F := F) m c q) := by
  unfold dmaPay; (repeat' split) <;> infer_instance
instance barPayT_storable (c : Dev nD) : BI.Storable (upEmb : UEmb _ 𝕄) (barPayT (F := F) c) := by
  unfold barPayT; infer_instance
instance barPayF_storable (c : Dev nD) : BI.Storable (upEmb : UEmb _ 𝕄) (barPayF (F := F) c) := by
  unfold barPayF; split <;> infer_instance
instance Rd_payload_storable (g : GSem nD τ sig) (r : ℕ) (d : Bool) : BI.Storable (upEmb : UEmb _ 𝕄) ((Rd (F := F) m).payload g r d) := by
  obtain ⟨⟨a, b⟩, sm⟩ := g
  cases sm
  · cases d
    · exact barPayF_storable (F := F) a
    · exact barPayT_storable (F := F) a
  · exact dmaPay_storable (F := F) m a _

section Sched
variable (c : Dev nD)

/-- A barrier cell has both duties in its one round. -/
theorem duties_bar : (Rd (F := F) m).duties (barCell c) 0 = Finset.univ := by
  dsimp only [Rd]; rw [if_pos ⟨rfl, rfl, trivial⟩]; rfl
/-- A live copy's cell has one duty in its one round. -/
theorem duties_dma (q : DmaSem sig) (h : live c (.dma q)) : (Rd (F := F) m).duties ((c : Thread nD τ), .dma q) 0 = {false} := by
  dsimp only [Rd]; rw [if_pos ⟨rfl, rfl, h⟩]; rfl
/-- A cell that is not live has no duty. -/
theorem duties_dead (g : GSem nD τ sig) (h : ¬ live g.1.1 g.2) (r : ℕ) : (Rd (F := F) m).duties g r = ∅ := by
  dsimp only [Rd]; rw [if_neg fun h' => h h'.2.2]
/-- No cell has a duty in a later round. -/
theorem duties_later (g : GSem nD τ sig) : ∀ r, 1 ≤ r → (Rd (F := F) m).duties g r = ∅ :=
  fun r hr => by dsimp only [Rd]; rw [if_neg fun h => by omega]
/-- A signal pays one unit. -/
theorem amount_bar (d : Bool) : (Rd (F := F) m).amount (barCell c) 0 d = 1 := rfl
/-- A landing pays a half slot's units. -/
theorem amount_dma (q : DmaSem sig) (r : ℕ) (d : Bool) : (Rd (F := F) m).amount ((c : Thread nD τ), .dma q) r d = N := rfl
/-- The barrier expects two units. -/
theorem expect_bar : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- A live copy's cell expects one landing. -/
theorem expect_dma (q : DmaSem sig) (h : live c (.dma q)) : (Rd (F := F) m).expect ((c : Thread nD τ), .dma q) 0 = N := by
  unfold Schedule.expect Schedule.amountOf; rw [duties_dma m c q h, Finset.sum_singleton, amount_dma]
/-- What the sibling hands over at the barrier. -/
theorem payload_bar_true : (Rd (F := F) m).payload (barCell c) 0 true = barPayT c := rfl
/-- What the mate hands over at the barrier. -/
theorem payload_bar_false : (Rd (F := F) m).payload (barCell c) 0 false = barPayF c := rfl
/-- What a landing hands over. -/
theorem payload_dma (q : DmaSem sig) (d : Bool) : (Rd (F := F) m).payload ((c : Thread nD τ), .dma q) 0 d = dmaPay m c q.val := rfl

/-- All that the barrier's round hands over. -/
theorem rest_bar : bigSep ((Rd (F := F) m).duties (barCell c) 0 \ ∅) (fun d => (Rd (F := F) m).payload (barCell c) 0 d) = iprop(barPayF c ∗ barPayT c) := by
  rw [Finset.sdiff_empty, duties_bar, bigSep_univ_eq_bigSepL [false, true] (by decide) (by decide), bigSepL_cons_cons, bigSepL_singleton]
  rfl
/-- All that the round of a copy's cell hands over. -/
theorem rest_dma (q : DmaSem sig) (h : live c (.dma q)) :
    bigSep ((Rd (F := F) m).duties ((c : Thread nD τ), .dma q) 0 \ ∅) (fun d => (Rd (F := F) m).payload ((c : Thread nD τ), .dma q) 0 d) = dmaPay m c q.val := by
  rw [Finset.sdiff_empty, duties_dma m c q h, bigSep_singleton]; rfl
end Sched

/-! ## Levels, and what a device owes -/

def L (g : GSem nD τ sig) : Finset Unit := if g.1.2 = .tc then {()} else ∅
/-- Barrier cells at 1, the receive cells of slot 0 at 2, those of slot 1 at 3, all else at 0. -/
def lv (g : GSem nD τ sig) (_ : Unit) : ℕ := match g.2 with
  | .reg _ => 1
  | .dma q => if q.val = 9 ∨ q.val = 10 then 2 else if q.val = 11 ∨ q.val = 12 then 3 else 0
/-- Only the cells of the devices' main cores carry levels. -/
theorem L_of_ne (g : GSem nD τ sig) (h : g.1.2 ≠ .tc) : L g = ∅ := if_neg h
/-- And each of those has one. -/
theorem L_tc (c : Dev nD) (sm : SemLoc sig) : L ((c : Thread nD τ), sm) = {()} := if_pos rfl

/-- What is owed is owed to cells of a level above `n`. -/
def Above (n : ℕ) (O : CellTallies nD τ sig Unit) : Prop := ∀ g u, 0 < O g u → u ∈ L g ∧ n < lv g u
/-- Owing nothing lies above every level. -/
theorem above_zero (n : ℕ) : Above n 0 := fun g u h => absurd h (Nat.lt_irrefl 0)
/-- What is owed together lies above a level if each part does. -/
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
/-- What is owed to one cell lies above the levels below the cell's. -/
theorem above_at {n : ℕ} (c : Dev nD) (sm : SemLoc sig) (k : ℕ) (h : n < lv ((c : Thread nD τ), sm) ()) :
    Above n (tallyAt ((c : Thread nD τ), sm) () k) := fun g u hg => by
  rw [tallyAt_apply] at hg
  split at hg
  · next e => rw [e.1, L_tc]; exact ⟨Finset.mem_singleton_self _, h⟩
  · exact absurd hg (Nat.lt_irrefl 0)

/-- A device may wait on a cell of level at most `n` while it owes only to cells above `n`. -/
theorem mayWait (n : ℕ) (c : Dev nD) (sm : SemLoc sig) (O : CellTallies nD τ sig Unit) (hs : lv ((c : Thread nD τ), sm) () ≤ n) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1) (fun p hp => by rw [Finset.mem_singleton.mp hp]; exact hs) (fun g u hg => (hO g u hg).2)

/-- Owed to the sibling's slot 1: both windows. -/
def os (c : Dev nD) : CellTallies nD τ sig Unit := tallyAt (recvCell (sib c) 1 0) () N + tallyAt (recvCell (sib c) 1 1) () N
/-- Owed by an owner to its mate's slot 0: both windows. -/
def om (c : Dev nD) : CellTallies nD τ sig Unit :=
  if own c then tallyAt (recvCell (mate c) 0 0) () N + tallyAt (recvCell (mate c) 0 1) () N else 0
/-- All that a device owes at launch. -/
def O₀ (c : Dev nD) : CellTallies nD τ sig Unit :=
  os c + om c + (tallyAt (barCell (sib c)) () 1 + tallyAt (barCell (mate c)) () 1)

/-- The barrier's level. -/
theorem lv_bar (c : Dev nD) : lv (barCell c) () = 1 := rfl
/-- A send cell's level. -/
theorem lv_send (c : Dev nD) (i : Fin 4) : lv (sendCell c i) () = 0 := by fin_cases i <;> rfl
/-- The level of slot 0's receive cells. -/
theorem lv_recv0 (c : Dev nD) (h : Fin 2) : lv (recvCell c 0 h) () = 2 := by fin_cases h <;> rfl
/-- The level of slot 1's receive cells. -/
theorem lv_recv1 (c : Dev nD) (h : Fin 2) : lv (recvCell c 1 h) () = 3 := by fin_cases h <;> rfl

/-- What is owed to the sibling's slot 1 lies above level 2. -/
theorem above_os (c : Dev nD) : Above 2 (os c) :=
  above_add (above_at _ _ _ (lt_of_lt_of_eq (by decide) (lv_recv1 _ 0).symm)) (above_at _ _ _ (lt_of_lt_of_eq (by decide) (lv_recv1 _ 1).symm))
/-- What is owed to the mate's slot 0 lies above level 1. -/
theorem above_om (c : Dev nD) : Above 1 (om c) := by
  unfold om; split
  · exact above_add (above_at _ _ _ (lt_of_lt_of_eq (by decide) (lv_recv0 _ 0).symm)) (above_at _ _ _ (lt_of_lt_of_eq (by decide) (lv_recv0 _ 1).symm))
  · exact above_zero 1
theorem Above.mono {n k : ℕ} {O : CellTallies nD τ sig Unit} (h : Above n O) (hk : k ≤ n) : Above k O :=
  fun g u hg => ⟨(h g u hg).1, lt_of_le_of_lt hk (h g u hg).2⟩
/-- All that is owed lies above level 0. -/
theorem above_O₀ (c : Dev nD) : Above 0 (O₀ c) :=
  above_add (above_add ((above_os c).mono (by decide)) ((above_om c).mono (by decide)))
    (above_add (above_at _ _ _ (lt_of_lt_of_eq (by decide) (lv_bar _).symm)) (above_at _ _ _ (lt_of_lt_of_eq (by decide) (lv_bar _).symm)))

/-- The first two send cells are live everywhere, and all four on an owner. -/
theorem live_send (c : Dev nD) (i : Fin 4) (h : i.val < 2 ∨ own c) : live c (.dma (sendS i)) := by
  revert i c; decide
/-- Slot 1's receive cells are live. -/
theorem live_recv1 (c : Dev nD) (h : Fin 2) : live c (.dma (recvS 1 h)) := by revert h c; decide
/-- Slot 0's are live on a relay. -/
theorem live_recv0 (c : Dev nD) (h : Fin 2) (hc : ¬ own c) : live c (.dma (recvS 0 h)) := by revert h c; decide

end Cert.Swa
-- ==== Proof.Land.lean ====
/-
# `Land`: where the copies land

The windows of the gathered buffer by coordinates, and that a copy of a window leaves in it exactly what `gV` says.
-/
module

public import proofs.«01_k».proof.Proof.Proto

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The windows by coordinates -/

/-- Row `x` of window `h` of slot `s` is row `512 h + x` of the slot. -/
theorem gWin_emb (s h : Fin 2) (x : S512x128.Idx) :
    ((((gWin s h).view.emb x) 0 : Fin _) : ℕ) = s.val ∧ ((((gWin s h).view.emb x) 1 : Fin _) : ℕ) = 512 * h.val + (x 0).val
      ∧ ((((gWin s h).view.emb x) 2 : Fin _) : ℕ) = (x 1).val := by
  have e : (gWin s h).view.emb x = (Rect.unit (s := S2x1024x128) ![s.val, 512 * h.val, 0] S1x512x128.size (inbG s h)).emb
      (Fin.cons ⟨0, Nat.one_pos⟩ x) := by
    rw [← Shape.reshapeEquiv_cons_one (n := 2) (d := ![512, 128]) (by decide) x]; rfl
  rw [e]
  refine ⟨?_, ?_, ?_⟩ <;> rw [Rect.emb_apply]
  · show s.val + 1 * 0 = s.val; omega
  · show 512 * h.val + 1 * (x 0).val = _; omega
  · show 0 + 1 * (x 1).val = _; omega

/-- Row `x` of window `h` of the staged block is row `512 h + x` of it. -/
theorem kWin_emb (h : Fin 2) (x : S512x128.Idx) :
    ((((kWin h).view.emb x) 0 : Fin _) : ℕ) = 512 * h.val + (x 0).val ∧ ((((kWin h).view.emb x) 1 : Fin _) : ℕ) = (x 1).val := by
  have e : (kWin h).view.emb x = (Rect.unit (s := S1024x128) ![512 * h.val, 0] S512x128.size (inbK h)).emb x := rfl
  rw [e]
  refine ⟨?_, ?_⟩ <;> rw [Rect.emb_apply]
  · show 512 * h.val + 1 * (x 0).val = _; omega
  · show 0 + 1 * (x 1).val = _; omega

/-- Membership in a window, by the first two coordinates. -/
theorem mem_gWin (s h : Fin 2) (i : S2x1024x128.Idx) :
    i ∈ (gWin s h).view.set ↔ (i 0).val = s.val ∧ (i 1).val / 512 = h.val := by
  constructor
  · intro hi
    obtain ⟨x, -, rfl⟩ := Finset.mem_map.mp hi
    obtain ⟨h0, h1, -⟩ := gWin_emb s h x
    have := (x 0).isLt
    change (x 0).val < 512 at this
    exact ⟨h0, by rw [h1]; omega⟩
  · rintro ⟨h0, h1⟩
    have hi1 := (i 1).isLt
    have hi2 := (i 2).isLt
    let x : S512x128.Idx := Fin.cons ⟨(i 1).val - 512 * h.val, by change (i 1).val < 1024 at hi1; show _ < 512; omega⟩ (Fin.cons ⟨(i 2).val, hi2⟩ finZeroElim)
    refine Finset.mem_map.mpr ⟨x, Finset.mem_univ _, ?_⟩
    obtain ⟨e0, e1, e2⟩ := gWin_emb s h x
    funext a
    apply Fin.ext
    fin_cases a
    · exact e0.trans h0.symm
    · refine e1.trans ?_
      show 512 * h.val + ((i 1).val - 512 * h.val) = (i 1).val
      omega
    · exact e2

/-- Slot 0 of the gathered buffer at an element. -/
theorem gV_slot0 (d : Dev nD) (i : S2x1024x128.Idx) (h : (i 0).val = 0) :
    gV m d i = kvb m (fsrc d) ((fun a : Fin 2 => i a.succ : S1024x128.Idx)) := if_pos h
/-- Slot 1 of the gathered buffer at an element. -/
theorem gV_slot1 (d : Dev nD) (i : S2x1024x128.Idx) (h : (i 0).val ≠ 0) :
    gV m d i = kvb m (ssrc d) ((fun a : Fin 2 => i a.succ : S1024x128.Idx)) := if_neg h

/-- What a copy of the staged block's window leaves in a window of a device whose slot holds that block. -/
theorem land_k (c d : Dev nD) (s h : Fin 2) (hs : (if s.val = 0 then fsrc d else ssrc d) = c)
    (f : (cc0_scratch0 : Ref sig .tc).ty.Contents (Elt F)) :
    ∀ i ∈ (gWin s h).view.set, (gWin s h).view.write (Elt F) f ((kWin h).view.read (Elt F) (kvb m c)) Finset.univ i = gV m d i := by
  intro i hi
  obtain ⟨x, -, rfl⟩ := Finset.mem_map.mp hi
  rw [View.write_emb_of_mem _ _ (Finset.mem_univ x), View.read_apply]
  obtain ⟨e0, e1, e2⟩ := gWin_emb s h x
  obtain ⟨k0, k1⟩ := kWin_emb h x
  have hk : ((kWin h).view.emb x : S1024x128.Idx) = (fun a : Fin 2 => ((gWin s h).view.emb x : S2x1024x128.Idx) a.succ : S1024x128.Idx) := by
    funext a; apply Fin.ext; fin_cases a
    · exact k0.trans e1.symm
    · exact k1.trans e2.symm
  refine (congrArg (kvb m c) hk).trans ?_
  by_cases h0 : s.val = 0
  · rw [if_pos h0] at hs; subst hs
    exact (gV_slot0 m d _ (e0.trans h0)).symm
  · rw [if_neg h0] at hs; subst hs
    exact (gV_slot1 m d _ (fun h' => h0 (e0.symm.trans h'))).symm

/-- What a forwarded window leaves: slot 0 of the sender in slot 1 of its sibling. -/
theorem land_g (c : Dev nD) (h : Fin 2) (f : (cc0_scratch0 : Ref sig .tc).ty.Contents (Elt F)) :
    ∀ i ∈ (gWin 1 h).view.set, (gWin 1 h).view.write (Elt F) f ((gWin 0 h).view.read (Elt F) (gV m c)) Finset.univ i = gV m (sib c) i := by
  intro i hi
  obtain ⟨x, -, rfl⟩ := Finset.mem_map.mp hi
  rw [View.write_emb_of_mem _ _ (Finset.mem_univ x), View.read_apply]
  obtain ⟨e0, e1, e2⟩ := gWin_emb 1 h x
  obtain ⟨k0, k1, k2⟩ := gWin_emb 0 h x
  have hk : (fun a : Fin 2 => ((gWin 0 h).view.emb x : S2x1024x128.Idx) a.succ : S1024x128.Idx)
      = (fun a : Fin 2 => ((gWin 1 h).view.emb x : S2x1024x128.Idx) a.succ : S1024x128.Idx) := by
    funext a; apply Fin.ext; fin_cases a
    · exact k1.trans e1.symm
    · exact k2.trans e2.symm
  refine (gV_slot0 m c _ k0).trans (Eq.trans ?_ (gV_slot1 m (sib c) _ (fun h' => absurd (e0.symm.trans h') (by decide))).symm)
  rw [ssrc_sib, hk]

/-! ## The whole buffer and its windows -/

/-- Different halves of slots are apart. -/
theorem gWin_disjoint (s h s' h' : Fin 2) (hne : (s, h) ≠ (s', h')) : Disjoint (gWin s h).view.set (gWin s' h').view.set := by
  rw [Finset.disjoint_left]
  intro i hi hj
  have h1 := (mem_gWin s h i).mp hi
  have h2 := (mem_gWin s' h' i).mp hj
  exact hne (Prod.ext (Fin.ext (h1.1.symm.trans h2.1)) (Fin.ext (h1.2.symm.trans h2.2)))

/-- Slot 0, as one set of elements. -/
def slot0 : Finset S2x1024x128.Idx := (gWin 0 0).view.set ∪ (gWin 0 1).view.set
def slot1 : Finset S2x1024x128.Idx := (gWin 1 0).view.set ∪ (gWin 1 1).view.set
/-- Slot 0 is where the first coordinate is 0. -/
theorem mem_slot0 (i : S2x1024x128.Idx) : i ∈ slot0 ↔ (i 0).val = 0 := by
  unfold slot0
  rw [Finset.mem_union, mem_gWin, mem_gWin]
  have := (i 1).isLt; change (i 1).val < 1024 at this
  show (_ = 0 ∧ _ = 0) ∨ (_ = 0 ∧ _ = 1) ↔ _
  omega
/-- The two slots are the whole buffer. -/
theorem slots_univ : (Finset.univ : Finset S2x1024x128.Idx) = slot0 ∪ slot1 := by
  ext i
  unfold slot0 slot1
  rw [Finset.mem_union, Finset.mem_union, Finset.mem_union, mem_gWin, mem_gWin, mem_gWin, mem_gWin, iff_true_left (Finset.mem_univ i)]
  have := (i 1).isLt; change (i 1).val < 1024 at this
  have h0 := (i 0).isLt; change (i 0).val < 2 at h0
  show ((_ = 0 ∧ _ = 0) ∨ (_ = 0 ∧ _ = 1)) ∨ ((_ = 1 ∧ _ = 0) ∨ (_ = 1 ∧ _ = 1))
  omega
/-- The two slots are apart. -/
theorem slots_disjoint : Disjoint slot0 slot1 := by
  unfold slot0 slot1
  rw [Finset.disjoint_union_left, Finset.disjoint_union_right, Finset.disjoint_union_right]
  exact ⟨⟨gWin_disjoint _ _ _ _ (by decide), gWin_disjoint _ _ _ _ (by decide)⟩, ⟨gWin_disjoint _ _ _ _ (by decide), gWin_disjoint _ _ _ _ (by decide)⟩⟩

/-- Slot 0 of the gathered buffer, whole, at a share. -/
def gSlot (q : PosShare TreeShare) (c : Dev nD) (f : (cc0_scratch0 : Ref sig .tc).ty.Contents (Elt F)) : sProp 𝕄 :=
  (c : Thread nD τ).loc cc0_scratch0 ↦[slot0]{q} f

/-- Holding slot 0 is holding its two halves. -/
theorem gSlot_eq (q) (c : Dev nD) (f) : gSlot (F := F) q c f ⊣⊢ iprop(gPts q c 0 0 f ∗ gPts q c 0 1 f) := by
  unfold gSlot gPts slot0
  exact pointsTo_union (gWin_disjoint 0 0 0 1 (by decide))

/-- The gathered buffer is slot 0 and the two windows of slot 1. -/
theorem scratch_eq (q) (c : Dev nD) (f : (cc0_scratch0 : Ref sig .tc).ty.Contents (Elt F)) :
    ((c : Thread nD τ).loc cc0_scratch0 ↦{q} f : sProp 𝕄) ⊣⊢ iprop(gSlot q c f ∗ gPts q c 1 0 f ∗ gPts q c 1 1 f) := by
  have h1 : ((c : Thread nD τ).loc cc0_scratch0 ↦{q} f : sProp 𝕄) ⊣⊢ iprop(gSlot q c f ∗ ((c : Thread nD τ).loc cc0_scratch0 ↦[slot1]{q} f)) := by
    unfold gSlot
    show ((c : Thread nD τ).loc cc0_scratch0 ↦[(Finset.univ : Finset S2x1024x128.Idx)]{q} f : sProp 𝕄) ⊣⊢ _
    rw [slots_univ]
    exact pointsTo_union slots_disjoint
  have h2 : ((c : Thread nD τ).loc cc0_scratch0 ↦[slot1]{q} f : sProp 𝕄) ⊣⊢ iprop(gPts q c 1 0 f ∗ gPts q c 1 1 f) := by
    unfold gPts slot1
    exact pointsTo_union (gWin_disjoint 1 0 1 1 (by decide))
  constructor
  · iintro H
    ihave H := h1.1 $$ H
    icases H with ⟨H0, H1⟩
    isplitl [H0]; · iexact H0
    iapply h2.1; iexact H1
  · iintro ⟨H0, H1⟩
    iapply h1.2
    isplitl [H0]; · iexact H0
    iapply h2.2; iexact H1

/-! ## The staged block and its windows -/

/-- A row lies in the half of the own block that its number says. -/
theorem mem_kWin (h : Fin 2) (i : S1024x128.Idx) : i ∈ (kWin h).view.set ↔ (i 0).val / 512 = h.val := by
  constructor
  · intro hi
    obtain ⟨x, -, rfl⟩ := Finset.mem_map.mp hi
    obtain ⟨h0, h1⟩ := kWin_emb h x
    have := (x 0).isLt
    change (x 0).val < 512 at this
    rw [h0]; omega
  · intro h1
    have hi1 := (i 0).isLt
    have hi2 := (i 1).isLt
    let x : S512x128.Idx := Fin.cons ⟨(i 0).val - 512 * h.val, by change (i 0).val < 1024 at hi1; show _ < 512; omega⟩ (Fin.cons ⟨(i 1).val, hi2⟩ finZeroElim)
    refine Finset.mem_map.mpr ⟨x, Finset.mem_univ _, ?_⟩
    obtain ⟨e0, e1⟩ := kWin_emb h x
    funext a
    apply Fin.ext
    fin_cases a
    · refine e0.trans ?_
      show 512 * h.val + ((i 0).val - 512 * h.val) = (i 0).val
      omega
    · exact e1

/-- The staged block is its two windows. -/
theorem block_eq (q) (c : Dev nD) : ((c : Thread nD τ).loc cc0_stg2_0 ↦{q} kvb m c : sProp 𝕄) ⊣⊢ iprop(kPts m q c 0 ∗ kPts m q c 1) := by
  have hu : (Finset.univ : Finset S1024x128.Idx) = (kWin 0).view.set ∪ (kWin 1).view.set := by
    ext i
    rw [Finset.mem_union, mem_kWin, mem_kWin, iff_true_left (Finset.mem_univ i)]
    have := (i 0).isLt; change (i 0).val < 1024 at this
    show _ = 0 ∨ _ = 1
    omega
  have hd : Disjoint (kWin 0).view.set (kWin 1).view.set := by
    rw [Finset.disjoint_left]
    intro i hi hj
    have h1 := (mem_kWin 0 i).mp hi
    have h2 := (mem_kWin 1 i).mp hj
    exact absurd (h1.symm.trans h2) (by decide)
  unfold kPts
  show ((c : Thread nD τ).loc cc0_stg2_0 ↦[(Finset.univ : Finset S1024x128.Idx)]{q} kvb m c : sProp 𝕄) ⊣⊢ _
  rw [hu]
  exact pointsTo_union hd

end Cert.Swa
-- ==== Proof.Rules.lean ====
/-
# `Rules`: the copies, the waits and the signals of the kernel over the schedule
-/
module

public import proofs.«01_k».proof.Proof.Proto
public import proofs.«01_k».proof.Proof.Land

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells a device has, and what every device knows of them -/

/-- The semaphore of the cell `k` of a device: the barrier, the four send cells, the four receive cells. -/
def cellSm : Fin 9 → SemLoc sig := ![.reg barS, .dma (sendS 0), .dma (sendS 1), .dma (sendS 2), .dma (sendS 3),
  .dma (recvS 0 0), .dma (recvS 0 1), .dma (recvS 1 0), .dma (recvS 1 1)]
abbrev cellP (p : Dev nD × Fin 9) : GSem nD τ sig := ((p.1 : Thread nD τ), cellSm p.2)
def sIx (i : Fin 4) : Fin 9 := ⟨1 + i.val, by omega⟩
def rIx (s h : Fin 2) : Fin 9 := ⟨5 + 2 * s.val + h.val, by omega⟩
/-- The cell that `known` lists at a send index. -/
theorem cell_s (c : Dev nD) (i : Fin 4) : cellP (c, sIx i) = sendCell c i := by fin_cases i <;> rfl
/-- The cell that it lists at a receive index. -/
theorem cell_r (c : Dev nD) (s h : Fin 2) : cellP (c, rIx s h) = recvCell c s h := by fin_cases s <;> fin_cases h <;> rfl

variable (K : Dev nD × Fin 9 → ℕ)

/-- The invariants of every cell, and that every barrier cell is open. -/
def known : sProp 𝕄 :=
  iprop((bigSep Finset.univ fun p : Dev nD × Fin 9 => cellInv ER (Rd m) (K p) (cellP p)) ∗ bigSep Finset.univ fun c : Dev nD => reached ER (barCell c) 0)
/-- What is known stays known. -/
instance known_persistent : BI.Persistent (known m K) := by unfold known; infer_instance

/-- The barrier cell's invariant is known. -/
theorem known_bar (c : Dev nD) : known m K ⊢ cellInv ER (Rd m) (K (c, 0)) (barCell c) := by
  exact Laws.sep_elim_left.trans (bigSep_elim (Φ := fun p : Dev nD × Fin 9 => cellInv ER (Rd m) (K p) (cellP p)) (Finset.mem_univ ((c, 0) : Dev nD × Fin 9)))
/-- The barrier cell's first round is open. -/
theorem known_open (c : Dev nD) : known m K ⊢ reached ER (barCell c) 0 := by
  exact Laws.sep_elim_right.trans (bigSep_elim (Φ := fun c : Dev nD => reached ER (barCell c) 0) (Finset.mem_univ c))
/-- A send cell's invariant is known. -/
theorem known_send (c : Dev nD) (i : Fin 4) : known m K ⊢ cellInv ER (Rd m) (K (c, sIx i)) (sendCell c i) := by
  rw [← cell_s]; exact Laws.sep_elim_left.trans (bigSep_elim (Φ := fun p : Dev nD × Fin 9 => cellInv ER (Rd m) (K p) (cellP p)) (Finset.mem_univ ((c, sIx i) : Dev nD × Fin 9)))
/-- A receive cell's invariant is known. -/
theorem known_recv (c : Dev nD) (s h : Fin 2) : known m K ⊢ cellInv ER (Rd m) (K (c, rIx s h)) (recvCell c s h) := by
  rw [← cell_r]; exact Laws.sep_elim_left.trans (bigSep_elim (Φ := fun p : Dev nD × Fin 9 => cellInv ER (Rd m) (K p) (cellP p)) (Finset.mem_univ ((c, rIx s h) : Dev nD × Fin 9)))

/-! ## The payloads, cell by cell -/

/-- A landing hands over its half slot with the gathered contents. -/
theorem pay_recv (c : Dev nD) (s h : Fin 2) : dmaPay m c (recvS s h).val = gPts fullShare c s h (gV m c) := by
  fin_cases s <;> fin_cases h <;> rfl
/-- A send hands its source back. -/
theorem pay_send (c : Dev nD) (i : Fin 4) : dmaPay m c (sendS i).val = sendPay m c i.val := by
  fin_cases i <;> rfl
/-- An owner's send hands back a share of a half of its block. -/
theorem pay_send_own (c : Dev nD) (hc : own c) (s h : Fin 2) :
    dmaPay m c (sendS ⟨2 * s.val + h.val, by omega⟩).val = kPts m (if s.val = 0 then fullShare.right.left else fullShare.right.right) c h := by
  rw [pay_send]; unfold sendPay; rw [if_pos hc]; fin_cases s <;> fin_cases h <;> rfl
/-- A relay's send hands back half a share of a half of slot 0. -/
theorem pay_send_relay (c : Dev nD) (hc : ¬ own c) (h : Fin 2) :
    dmaPay m c (sendS ⟨h.val, by omega⟩).val = gPts fullShare.right c 0 h (gV m c) := by
  rw [pay_send]; unfold sendPay; rw [if_neg hc]; fin_cases h <;> rfl

/-- Holding a half of a slot, as the copies' rules write it. -/
theorem gPts_eq (q : PosShare TreeShare) (c : Dev nD) (s h : Fin 2) (f : (cc0_scratch0 : Ref sig .tc).ty.Contents (Elt F)) :
    (gPts q c s h f : sProp 𝕄) = ((gWin s h).view.loc (c : Thread nD τ) ↦[(gWin s h).view.set]{q} f) := rfl

/-! ## The rules -/

/-- One copy: its source at a share, its destination outright; the source's share is owed to the send cell, the destination
    with what lands to the receive cell. -/
theorem wp_copy (c n d : Dev nD) (hn : n = d) (i : Fin 4) (s h : Fin 2)
    {src : Memref sig .tc .vmem S512x128 .bf16} {dst : Memref sig (Dev.tc n : Thread nD τ).2.kind .vmem S512x128 .bf16} {sS sR : DmaSem sig}
    (hd : dst = gWin s h) (hsS : sS = sendS i) (hsR : sR = recvS s h)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ)))
    (hlS : live c (.dma (sendS i))) (hlR : live d (.dma (recvS s h)))
    (hpay : (src.view.loc (c : Thread nD τ) ↦[src.view.set]{q} fs) ⊢ dmaPay m c (sendS i).val)
    (hland : ∀ f : (cc0_scratch0 : Ref sig .tc).ty.Contents (Elt F), ∀ i ∈ (gWin s h).view.set,
      (gWin s h).view.write (Elt F) f (src.view.read (Elt F) fs) Finset.univ i = gV m d i)
    (O Orest : CellTallies nD τ sig Unit) (hO : O = Orest + tallyAt (recvCell d s h) () N) (W : Waits sig Unit) :
    iprop(known m K ∗ (src.view.loc (c : Thread nD τ) ↦[src.view.set]{q} fs) ∗ (∃ f, gPts fullShare d s h f) ∗ owes (c : Thread nD τ) O W
        ∗ dutyTok ER (sendCell c i) 0 false ∗ reached ER (sendCell c i) 0 ∗ dutyTok ER (recvCell d s h) 0 false ∗ reached ER (recvCell d s h) 0)
      ⊢ iprop(((cred (tallyAt (sendCell c i) () N) ∗ owes (c : Thread nD τ) Orest W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hd hsS hsR
  have key := fun f : (cc0_scratch0 : Ref sig .tc).ty.Contents (Elt F) =>
    Rounds.wp_send_pointsTo 𝒱₀ ER (Rd m) (c : Thread nD τ) none (κ₁ := K (c, sIx i)) (κ₂ := K (n, rIx s h))
    (defs := defs₀ (F := F)) (Γ := PendingWaitsCtx.empty) (Es := Set.univ) (Q := Q) (k := k) (src := src) (dst := gWin s h) (hsc := hsc) (hsrc := hsrc) (hdst := hdst) (hsem := hsem)
    (q := q) (fs := fs) (sS := .dma (sendS i)) (sem := .dma (recvS s h)) (c' := (Dev.tc n : Thread nD τ))
    (r₁ := 0) (r₂ := 0) (d₁ := false) (d₂ := false) (fd := f)
    (by rw [duties_dma m c _ hlS]; exact Finset.mem_singleton_self _) (by rw [duties_dma m n _ hlR]; exact Finset.mem_singleton_self _)
    () () N rfl (amount_dma m c _ 0 false) (amount_dma m n _ 0 false) Orest hO (W := W) hpay
    ((Entails.of_eq (pointsTo_congr (hland f))).trans (Entails.of_eq (pay_recv m n s h).symm))
  iintro ⟨#HK, Hs, ⟨%f, Hd⟩, HO, HtS, #HrS, HtR, #HrR⟩
  iapply (key f)
  isplitr; · iapply (known_send m K c i); iexact HK
  isplitr; · iapply (known_recv m K n s h); iexact HK
  isplitl [Hs]; · iexact Hs
  isplitl [Hd]; · iapply (Entails.of_eq (gPts_eq fullShare n s h f)); iexact Hd
  isplitl [HO]; · iexact HO
  isplitl [HtS]; · iexact HtS
  isplitr; · iexact HrS
  isplitl [HtR]; · iexact HtR
  iexact HrR

/-- A wait on a DMA cell that a round pays, owing `O` above `n`, the cell's level being at most `n`. -/
theorem wp_wait (c : Dev nD) (q : DmaSem sig) (hq : live c (.dma q)) (κ : ℕ) (n : ℕ) (hlv : lv ((c : Thread nD τ), .dma q) () ≤ n)
    (O : CellTallies nD τ sig Unit) (hO : Above n O) (W : Waits sig Unit) {q' : DmaSem sig} (hq' : q' = q)
    {src dst : Memref sig .tc .vmem S512x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(cellInv ER (Rd m) κ ((c : Thread nD τ), .dma q) ∗ levAts L lv ∗ cred (tallyAt ((c : Thread nD τ), SemLoc.dma q) () N) ∗ owes (c : Thread nD τ) O W
        ∗ atPos ER ((c : Thread nD τ), .dma q) 0 ∅ 0)
      ⊢ iprop((((∃ W', owes (c : Thread nD τ) O W') ∗ atPos ER ((c : Thread nD τ), .dma q) (0 + 1) ∅ 0
            ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  subst hq'
  iintro ⟨#HI, #Hlev, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := O) (W := W) (R := 0) (m := 0) (T := ∅)
      (by rw [Nat.zero_add, hN, expect_dma m c q' hq])) $$ [Hc HO Hat]
  · isplitr; · iexact HI
    isplitl [Hc]; · iexact Hc
    isplitl [HO]; · iexact HO
    isplitr; · iapply (mayWait n c _ O hlv hO); iexact Hlev
    iexact Hat
  iintro ⟨HO, Hat, -, Hpay⟩
  iapply Hk
  isplitl [HO]; · iexists _; iexact HO
  isplitl [Hat]; · iexact Hat
  iapply (Entails.of_eq (rest_dma m c q' hq)); iexact Hpay

/-- A wait on a receive cell: the window comes with what has landed in it. -/
theorem wp_wait_recv (c : Dev nD) (s h : Fin 2) (hq : live c (.dma (recvS s h))) (n : ℕ) (hlv : lv (recvCell c s h) () ≤ n)
    (O : CellTallies nD τ sig Unit) (hO : Above n O) (W : Waits sig Unit) {q' : DmaSem sig} (hq' : q' = recvS s h)
    {src dst : Memref sig .tc .vmem S512x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(known m K ∗ levAts L lv ∗ cred (tallyAt (recvCell c s h) () N) ∗ owes (c : Thread nD τ) O W ∗ atPos ER (recvCell c s h) 0 ∅ 0)
      ⊢ iprop((((∃ W', owes (c : Thread nD τ) O W') ∗ atPos ER (recvCell c s h) (0 + 1) ∅ 0 ∗ gPts fullShare c s h (gV m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  rw [← pay_recv]
  iintro ⟨#HK, Hr⟩
  iapply (wp_wait m c (recvS s h) hq (K (c, rIx s h)) n hlv O hO W hq' hN)
  isplitr; · iapply (known_recv m K c s h); iexact HK
  iexact Hr

/-- A wait on a send cell, owing nothing: the source's share comes back. -/
theorem wp_wait_send (c : Dev nD) (i : Fin 4) (hq : live c (.dma (sendS i))) (W : Waits sig Unit) {q' : DmaSem sig} (hq' : q' = sendS i)
    {src dst : Memref sig .tc .vmem S512x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(known m K ∗ levAts L lv ∗ cred (tallyAt (sendCell c i) () N) ∗ owes (c : Thread nD τ) 0 W ∗ atPos ER (sendCell c i) 0 ∅ 0)
      ⊢ iprop((((∃ W', owes (c : Thread nD τ) 0 W') ∗ atPos ER (sendCell c i) (0 + 1) ∅ 0 ∗ dmaPay m c (sendS i).val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  iintro ⟨#HK, Hr⟩
  iapply (wp_wait m c (sendS i) hq (K (c, sIx i)) 0 (le_of_eq (lv_send c i)) 0 (above_zero 0) W hq' hN)
  isplitr; · iapply (known_send m K c i); iexact HK
  iexact Hr

/-! ## The barrier -/

/-- A signal to the sibling: slot 1 and its receive cells go to it. -/
theorem wp_signal_sib (c n : Dev nD) (hn : n = sib c) {z : ℤ} (hz : z = ((1 : ℕ) : ℤ)) {sm : Sem sig} (hsm : sm = barS) {α : Type} {Q : α → sProp 𝕄} {k : PUnit → Prog (TpuEff nD τ sig (Elt F) Λ₀ .tc) α}
    (O Orest : CellTallies nD τ sig Unit) (hO : O = Orest + tallyAt (barCell (sib c)) () 1) (W : Waits sig Unit) :
    iprop(known m K ∗ owes (c : Thread nD τ) O W ∗ dutyTok ER (barCell (sib c)) 0 true
        ∗ (∃ f, gPts fullShare c 1 0 f) ∗ (∃ f, gPts fullShare c 1 1 f) ∗ reached ER (recvCell c 1 0) 0 ∗ reached ER (recvCell c 1 1) 0)
      ⊢ iprop((owes (c : Thread nD τ) Orest W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, .tc) : Thread nD τ) sm z) k) Q) := by
  subst hn hz hsm
  iintro ⟨#HK, HO, Ht, Hpay⟩
  iapply (Rounds.wp_signal 𝒱₀ ER (Rd m) (c : Thread nD τ) none (dst := (sib c : Thread nD τ)) (κ := K (sib c, 0))
      (d := true) (by rw [duties_bar]; exact Finset.mem_univ _) (amount_bar m (sib c) true) () Orest hO)
  isplitr; · iapply (known_bar m K (sib c)); iexact HK
  isplitl [HO]; · iexact HO
  isplitl [Ht]; · iexact Ht
  isplitl [Hpay]
  · rw [payload_bar_true]; unfold barPayT; rw [sib_sib]; iexact Hpay
  iapply (known_open m K (sib c)); iexact HK

/-- A signal to the mate: a relay hands over slot 0 and its receive cells. -/
theorem wp_signal_mate (c n : Dev nD) (hn : n = mate c) {z : ℤ} (hz : z = ((1 : ℕ) : ℤ)) {sm : Sem sig} (hsm : sm = barS) {α : Type} {Q : α → sProp 𝕄} {k : PUnit → Prog (TpuEff nD τ sig (Elt F) Λ₀ .tc) α}
    (O Orest : CellTallies nD τ sig Unit) (hO : O = Orest + tallyAt (barCell (mate c)) () 1) (W : Waits sig Unit) :
    iprop(known m K ∗ owes (c : Thread nD τ) O W ∗ dutyTok ER (barCell (mate c)) 0 false ∗ barPayF (mate c))
      ⊢ iprop((owes (c : Thread nD τ) Orest W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, .tc) : Thread nD τ) sm z) k) Q) := by
  subst hn hz hsm
  iintro ⟨#HK, HO, Ht, Hpay⟩
  iapply (Rounds.wp_signal 𝒱₀ ER (Rd m) (c : Thread nD τ) none (dst := (mate c : Thread nD τ)) (κ := K (mate c, 0))
      (d := false) (by rw [duties_bar]; exact Finset.mem_univ _) (amount_bar m (mate c) false) () Orest hO)
  isplitr; · iapply (known_bar m K (mate c)); iexact HK
  isplitl [HO]; · iexact HO
  isplitl [Ht]; · iexact Ht
  isplitl [Hpay]
  · rw [payload_bar_false]; iexact Hpay
  iapply (known_open m K (mate c)); iexact HK

/-- What a relay hands its mate. -/
theorem barPayF_relay (c : Dev nD) (hc : ¬ own c) :
    iprop((∃ f, gPts fullShare c 0 0 f) ∗ (∃ f, gPts fullShare c 0 1 f) ∗ reached ER (recvCell c 0 0) 0 ∗ reached ER (recvCell c 0 1) 0)
      ⊢ (barPayF (mate c) : sProp 𝕄) := by
  unfold barPayF; rw [if_pos ((own_mate c).mpr hc), mate_mate]
/-- What an owner hands its mate. -/
theorem barPayF_own (c : Dev nD) (hc : own c) : (iprop(emp) : sProp 𝕄) ⊢ barPayF (mate c) := by
  unfold barPayF; rw [if_neg (fun h => (own_mate c).mp h hc)]

/-- The wait at the barrier, owing the copies: what both neighbours hand over. -/
theorem wp_barrier_wait (c : Dev nD) {z : ℤ} (hz : z = ((2 : ℕ) : ℤ)) {sm : Sem sig} (hsm : sm = barS) {α : Type} {Q : α → sProp 𝕄} {k : PUnit → Prog (TpuEff nD τ sig (Elt F) Λ₀ .tc) α} (W : Waits sig Unit) :
    iprop(known m K ∗ levAts L lv ∗ owes (c : Thread nD τ) (os c + om c) W ∗ cred (tallyAt (barCell c) () 2) ∗ atPos ER (barCell c) 0 ∅ 0)
      ⊢ iprop((((∃ W', owes (c : Thread nD τ) (os c + om c) W') ∗ atPos ER (barCell c) (0 + 1) ∅ 0 ∗ barPayF c ∗ barPayT c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm z) k) Q) := by
  subst hz hsm
  iintro ⟨#HK, #Hlev, HO, Hc, Hat⟩ Hk
  iapply (Rounds.wp_wait_rest_token 𝒱₀ ER (Rd m) (c : Thread nD τ) none (κ := K (c, 0))
      (wpE_semWait_eq 𝒱₀ (c : Thread nD τ) none Set.univ) (Set.mem_univ _) () (O := os c + om c) (W := W) (R := 0) (m := 0) (T := ∅)
      (by rw [expect_bar])) $$ [Hc HO Hat]
  · isplitr; · iapply (known_bar m K c); iexact HK
    isplitl [Hc]; · iexact Hc
    isplitl [HO]; · iexact HO
    isplitr
    · iapply (mayWait 1 c _ _ (le_of_eq (lv_bar c)) (above_add ((above_os c).mono (by decide)) (above_om c))); iexact Hlev
    iexact Hat
  iintro ⟨HO, Hat, -, Hpay⟩
  iapply Hk
  isplitl [HO]; · iexists _; iexact HO
  isplitl [Hat]; · iexact Hat
  iapply (Entails.of_eq (rest_bar m c)); iexact Hpay

/-! ## Closing -/

/-- A cell past its round closes: its semaphore stands at zero. -/
theorem close_bar (c : Dev nD) : iprop(known m K ∗ atPos ER (barCell c) (0 + 1) ∅ 0) ⊢ (iprop(|={Set.univ}[frame]=> semVal (barCell c) 0) : sProp 𝕄) := by
  iintro ⟨#HK, Hat⟩
  iapply (Rounds.cell_close ER (Rd m) (Set.mem_univ (K (c, 0))) (fun h => h) (R := 0 + 1) (duties_later m (barCell c)))
  isplitr; · iapply (known_bar m K c); iexact HK
  iexact Hat
/-- A send cell that has been waited on reads zero. -/
theorem close_send (c : Dev nD) (i : Fin 4) : iprop(known m K ∗ atPos ER (sendCell c i) (0 + 1) ∅ 0) ⊢ (iprop(|={Set.univ}[frame]=> semVal (sendCell c i) 0) : sProp 𝕄) := by
  iintro ⟨#HK, Hat⟩
  iapply (Rounds.cell_close ER (Rd m) (Set.mem_univ (K (c, sIx i))) (fun h => h) (R := 0 + 1) (duties_later m (sendCell c i)))
  isplitr; · iapply (known_send m K c i); iexact HK
  iexact Hat
/-- So does a receive cell. -/
theorem close_recv (c : Dev nD) (s h : Fin 2) : iprop(known m K ∗ atPos ER (recvCell c s h) (0 + 1) ∅ 0) ⊢ (iprop(|={Set.univ}[frame]=> semVal (recvCell c s h) 0) : sProp 𝕄) := by
  iintro ⟨#HK, Hat⟩
  iapply (Rounds.cell_close ER (Rd m) (Set.mem_univ (K (c, rIx s h))) (fun h => h) (R := 0 + 1) (duties_later m (recvCell c s h)))
  isplitr; · iapply (known_recv m K c s h); iexact HK
  iexact Hat
/-- A cell that nothing pays closes where it was opened. -/
theorem close_send_dead (c : Dev nD) (i : Fin 4) (hd : ¬ live c (.dma (sendS i))) :
    iprop(known m K ∗ atPos ER (sendCell c i) 0 ∅ 0) ⊢ (iprop(|={Set.univ}[frame]=> semVal (sendCell c i) 0) : sProp 𝕄) := by
  iintro ⟨#HK, Hat⟩
  iapply (Rounds.cell_close ER (Rd m) (Set.mem_univ (K (c, sIx i))) (fun h => h) (R := 0) (fun r _ => duties_dead m (sendCell c i) hd r))
  isplitr; · iapply (known_send m K c i); iexact HK
  iexact Hat
/-- And a receive cell that no copy reaches. -/
theorem close_recv_dead (c : Dev nD) (s h : Fin 2) (hd : ¬ live c (.dma (recvS s h))) :
    iprop(known m K ∗ atPos ER (recvCell c s h) 0 ∅ 0) ⊢ (iprop(|={Set.univ}[frame]=> semVal (recvCell c s h) 0) : sProp 𝕄) := by
  iintro ⟨#HK, Hat⟩
  iapply (Rounds.cell_close ER (Rd m) (Set.mem_univ (K (c, rIx s h))) (fun h => h) (R := 0) (fun r _ => duties_dead m (recvCell c s h) hd r))
  isplitr; · iapply (known_recv m K c s h); iexact HK
  iexact Hat

end Cert.Swa
-- ==== Proof.Chain.lean ====
/-
# `Chain`: the values that the kernel passes from one part of its body to the next
-/
module

public import proofs.«01_k».proof.Proof.Sched

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! Each value under the number that the kernel gives it: a load of a staged block or of the gathered buffer, or a payload
of values before it. -/

def V2 (c : Dev nD) : BitVec 32 := Scalar.remsi (Scalar.divsi (Dev.word c) 1#32) 4#32
def V19 (c : Dev nD) : Vec F S1x128x512 .bf16 := xM.view.readAt (Elt F) (Rect.unit (s := S2x128x512) ![0, 0, 0] S1x128x512.size inb_S2x128x512_S1x128x512_0_0_0).toLoadRect (iblk m c 0 t0_0)
def V21 (c : Dev nD) : Vec F S512x256 .bf16 := qM.view.readAt (Elt F) (Rect.unit (s := S512x256) ![0, 0] S512x256.size inb_S512x256_S512x256_0_0).toLoadRect (iblk m c 1 t0_0)
def V25 (c : Dev nD) : Vec F S1x128x512 .bf16 := xM.view.readAt (Elt F) (Rect.unit (s := S2x128x512) ![1, 0, 0] S1x128x512.size inb_S2x128x512_S1x128x512_1_0_0).toLoadRect (iblk m c 0 t0_0)
def V24 (c : Dev nD) : FVec F S128x256 .bf16 := k0_pay4 (V19 m c) (V21 m c)
def V27 (c : Dev nD) : Vec F S512x256 .bf16 := qM.view.readAt (Elt F) (Rect.unit (s := S512x256) ![0, 0] S512x256.size inb_S512x256_S512x256_0_0).toLoadRect (iblk m c 1 t0_0)
def V45 (c : Dev nD) : Vec F S1x64x128 .bf16 := gM.view.readAt (Elt F) (Rect.unit (s := S2x1024x128) ![0, 0, 0] S1x64x128.size inb_S2x1024x128_S1x64x128_0_0_0).toLoadRect (gV m c)
def V40 (c : Dev nD) : BitVec 32 := Scalar.select (Scalar.ori (Scalar.cmpi .eq (V2 c) 1#32) (Scalar.cmpi .eq (V2 c) 2#32)) 128#32 0#32
def V41 (c : Dev nD) : BitVec 32 := Scalar.select (Scalar.ori (Scalar.cmpi .eq (V2 c) 1#32) (Scalar.cmpi .eq (V2 c) 2#32)) 0#32 128#32
def V42 (c : Dev nD) : IVec S128x128 32 := iota .tc S128x128 32 [0] iota_S128x128_d0_w32
def V43 (c : Dev nD) : IVec S128x128 32 := iota .tc S128x128 32 [1] iota_S128x128_d1_w32
def V30 (c : Dev nD) : FVec F S128x256 .bf16 := k0_pay5 (V25 m c) (V27 m c)
def V59 (c : Dev nD) : FVec F S128x1 .f32 := k0_pay7 (V2 c) (V24 m c) (V45 m c)
def V62 (c : Dev nD) : FVec F S128x128 .f32 := k0_pay8 (V2 c) (V24 m c) (V45 m c)
def V65 (c : Dev nD) : Vec F S1x64x128 .bf16 := gM.view.readAt (Elt F) (Rect.unit (s := S2x1024x128) ![0, 512, 0] S1x64x128.size inb_S2x1024x128_S1x64x128_0_512_0).toLoadRect (gV m c)
def V70 (c : Dev nD) : Vec F S1x64x128 .bf16 := gM.view.readAt (Elt F) (Rect.unit (s := S2x1024x128) ![0, 64, 0] S1x64x128.size inb_S2x1024x128_S1x64x128_0_64_0).toLoadRect (gV m c)
def V90 (c : Dev nD) : Vec F S1x64x128 .bf16 := gM.view.readAt (Elt F) (Rect.unit (s := S2x1024x128) ![0, 576, 0] S1x64x128.size inb_S2x1024x128_S1x64x128_0_576_0).toLoadRect (gV m c)
def V95 (c : Dev nD) : Vec F S1x64x128 .bf16 := gM.view.readAt (Elt F) (Rect.unit (s := S2x1024x128) ![0, 128, 0] S1x64x128.size inb_S2x1024x128_S1x64x128_0_128_0).toLoadRect (gV m c)
def V64 (c : Dev nD) : FVec F S128x1 .f32 := k0_pay9 (V62 m c)
def V68 (c : Dev nD) : FVec F S128x64 .f32 := k0_pay10 (V62 m c) (V65 m c)
def V84 (c : Dev nD) : FVec F S128x1 .f32 := k0_pay12 (V24 m c) (V40 c) (V42 c) (V43 c) (V70 m c)
def V89 (c : Dev nD) : FVec F S128x1 .f32 := k0_pay14 (V24 m c) (V40 c) (V42 c) (V43 c) (V70 m c)
def V93 (c : Dev nD) : FVec F S128x64 .f32 := k0_pay15 (V24 m c) (V40 c) (V42 c) (V43 c) (V70 m c) (V90 m c)
def V99 (c : Dev nD) : FVec F S128x128 .f32 := k0_pay16 (V24 m c) (V95 m c)
def V115 (c : Dev nD) : Vec F S1x64x128 .bf16 := gM.view.readAt (Elt F) (Rect.unit (s := S2x1024x128) ![0, 640, 0] S1x64x128.size inb_S2x1024x128_S1x64x128_0_640_0).toLoadRect (gV m c)
def V120 (c : Dev nD) : Vec F S1x64x128 .bf16 := gM.view.readAt (Elt F) (Rect.unit (s := S2x1024x128) ![0, 192, 0] S1x64x128.size inb_S2x1024x128_S1x64x128_0_192_0).toLoadRect (gV m c)
def V109 (c : Dev nD) : FVec F S128x1 .f32 := k0_pay18 (V40 c) (V42 c) (V43 c) (V99 m c)
def V114 (c : Dev nD) : FVec F S128x1 .f32 := k0_pay20 (V40 c) (V42 c) (V43 c) (V99 m c)
def V118 (c : Dev nD) : FVec F S128x64 .f32 := k0_pay21 (V40 c) (V42 c) (V43 c) (V99 m c) (V115 m c)
def V134 (c : Dev nD) : FVec F S128x1 .f32 := k0_pay23 (V24 m c) (V40 c) (V42 c) (V43 c) (V120 m c)
def V137 (c : Dev nD) : FVec F S128x128 .f32 := k0_pay24 (V24 m c) (V40 c) (V42 c) (V43 c) (V120 m c)
def V139 (c : Dev nD) : FVec F S128x1 .f32 := k0_pay25 (V24 m c) (V40 c) (V42 c) (V43 c) (V120 m c)
def V140 (c : Dev nD) : Vec F S1x64x128 .bf16 := gM.view.readAt (Elt F) (Rect.unit (s := S2x1024x128) ![0, 704, 0] S1x64x128.size inb_S2x1024x128_S1x64x128_0_704_0).toLoadRect (gV m c)
def V145 (c : Dev nD) : Vec F S1x64x128 .bf16 := gM.view.readAt (Elt F) (Rect.unit (s := S2x1024x128) ![0, 256, 0] S1x64x128.size inb_S2x1024x128_S1x64x128_0_256_0).toLoadRect (gV m c)
def V165 (c : Dev nD) : Vec F S1x64x128 .bf16 := gM.view.readAt (Elt F) (Rect.unit (s := S2x1024x128) ![0, 768, 0] S1x64x128.size inb_S2x1024x128_S1x64x128_0_768_0).toLoadRect (gV m c)
def V170 (c : Dev nD) : Vec F S1x64x128 .bf16 := gM.view.readAt (Elt F) (Rect.unit (s := S2x1024x128) ![0, 320, 0] S1x64x128.size inb_S2x1024x128_S1x64x128_0_320_0).toLoadRect (gV m c)
def V143 (c : Dev nD) : FVec F S128x64 .f32 := k0_pay26 (V137 m c) (V140 m c)
def V159 (c : Dev nD) : FVec F S128x1 .f32 := k0_pay28 (V30 m c) (V40 c) (V42 c) (V43 c) (V145 m c)
def V164 (c : Dev nD) : FVec F S128x1 .f32 := k0_pay30 (V30 m c) (V40 c) (V42 c) (V43 c) (V145 m c)
def V168 (c : Dev nD) : FVec F S128x64 .f32 := k0_pay31 (V30 m c) (V40 c) (V42 c) (V43 c) (V145 m c) (V165 m c)
def V174 (c : Dev nD) : FVec F S128x128 .f32 := k0_pay32 (V30 m c) (V170 m c)
def V178 (c : Dev nD) : IVec S128x128 32 := k0_pay33 (V40 c) (V42 c) (V43 c)
def V179 (c : Dev nD) : IVec S128x128 32 := k0_pay34
def V190 (c : Dev nD) : Vec F S1x64x128 .bf16 := gM.view.readAt (Elt F) (Rect.unit (s := S2x1024x128) ![0, 832, 0] S1x64x128.size inb_S2x1024x128_S1x64x128_0_832_0).toLoadRect (gV m c)
def V195 (c : Dev nD) : Vec F S1x64x128 .bf16 := gM.view.readAt (Elt F) (Rect.unit (s := S2x1024x128) ![0, 384, 0] S1x64x128.size inb_S2x1024x128_S1x64x128_0_384_0).toLoadRect (gV m c)
def V215 (c : Dev nD) : Vec F S1x64x128 .bf16 := gM.view.readAt (Elt F) (Rect.unit (s := S2x1024x128) ![0, 896, 0] S1x64x128.size inb_S2x1024x128_S1x64x128_0_896_0).toLoadRect (gV m c)
def V184 (c : Dev nD) : FVec F S128x1 .f32 := k0_pay36 (V174 m c) (V178 c) (V179 c)
def V189 (c : Dev nD) : FVec F S128x1 .f32 := k0_pay38 (V174 m c) (V178 c) (V179 c)
def V193 (c : Dev nD) : FVec F S128x64 .f32 := k0_pay39 (V174 m c) (V178 c) (V179 c) (V190 m c)
def V209 (c : Dev nD) : FVec F S128x1 .f32 := k0_pay41 (V30 m c) (V40 c) (V42 c) (V43 c) (V195 m c)
def V214 (c : Dev nD) : FVec F S128x1 .f32 := k0_pay43 (V30 m c) (V40 c) (V42 c) (V43 c) (V195 m c)
def V218 (c : Dev nD) : FVec F S128x64 .f32 := k0_pay44 (V30 m c) (V40 c) (V42 c) (V43 c) (V195 m c) (V215 m c)
def V219 (c : Dev nD) : FVec F S128x64 .bf16 := k0_pay45 (V30 m c)
def V220 (c : Dev nD) : Vec F S1x64x128 .bf16 := gM.view.readAt (Elt F) (Rect.unit (s := S2x1024x128) ![0, 448, 0] S1x64x128.size inb_S2x1024x128_S1x64x128_0_448_0).toLoadRect (gV m c)
def V240 (c : Dev nD) : Vec F S1x64x128 .bf16 := gM.view.readAt (Elt F) (Rect.unit (s := S2x1024x128) ![0, 960, 0] S1x64x128.size inb_S2x1024x128_S1x64x128_0_960_0).toLoadRect (gV m c)
def V234 (c : Dev nD) : FVec F S128x1 .f32 := k0_pay47 (V40 c) (V42 c) (V43 c) (V219 m c) (V220 m c)
def V239 (c : Dev nD) : FVec F S128x1 .f32 := k0_pay49 (V40 c) (V42 c) (V43 c) (V219 m c) (V220 m c)
def V243 (c : Dev nD) : FVec F S128x64 .f32 := k0_pay50 (V40 c) (V42 c) (V43 c) (V219 m c) (V220 m c) (V240 m c)
def V252 (c : Dev nD) : FVec F S128x64 .bf16 := k0_pay51 (V24 m c)
def V253 (c : Dev nD) : Vec F S1x64x128 .bf16 := gM.view.readAt (Elt F) (Rect.unit (s := S2x1024x128) ![1, 0, 0] S1x64x128.size inb_S2x1024x128_S1x64x128_1_0_0).toLoadRect (gV m c)
def V279 (c : Dev nD) : Vec F S1x64x128 .bf16 := gM.view.readAt (Elt F) (Rect.unit (s := S2x1024x128) ![1, 64, 0] S1x64x128.size inb_S2x1024x128_S1x64x128_1_64_0).toLoadRect (gV m c)
def V270 (c : Dev nD) : FVec F S128x1 .f32 := k0_pay54 (V41 c) (V42 c) (V43 c) (V59 m c) (V252 m c) (V253 m c)
def V273 (c : Dev nD) : FVec F S128x128 .f32 := k0_pay55 (V41 c) (V42 c) (V43 c) (V59 m c) (V252 m c) (V253 m c)
def V277 (c : Dev nD) : FVec F S128x1 .f32 := k0_pay56 (V41 c) (V42 c) (V43 c) (V59 m c) (V64 m c) (V252 m c) (V253 m c)
def V291 (c : Dev nD) : FVec F S128x128 .f32 := k0_pay57 (V24 m c) (V41 c) (V42 c) (V43 c) (V279 m c)
def V296 (c : Dev nD) : FVec F S128x1 .f32 := k0_pay59 (V24 m c) (V41 c) (V42 c) (V43 c) (V84 m c) (V279 m c)
def V297 (c : Dev nD) : FVec F S128x128 .f32 := k0_pay60 (V24 m c) (V41 c) (V42 c) (V43 c) (V84 m c) (V279 m c)
def V305 (c : Dev nD) : Vec F S1x64x128 .bf16 := gM.view.readAt (Elt F) (Rect.unit (s := S2x1024x128) ![1, 128, 0] S1x64x128.size inb_S2x1024x128_S1x64x128_1_128_0).toLoadRect (gV m c)
def V331 (c : Dev nD) : Vec F S1x64x128 .bf16 := gM.view.readAt (Elt F) (Rect.unit (s := S2x1024x128) ![1, 192, 0] S1x64x128.size inb_S2x1024x128_S1x64x128_1_192_0).toLoadRect (gV m c)
def V299 (c : Dev nD) : FVec F S128x128 .f32 := k0_pay61 (V291 m c) (V297 m c)
def V303 (c : Dev nD) : FVec F S128x1 .f32 := k0_pay62 (V89 m c) (V291 m c) (V296 m c) (V297 m c)
def V322 (c : Dev nD) : FVec F S128x1 .f32 := k0_pay65 (V24 m c) (V41 c) (V42 c) (V43 c) (V109 m c) (V305 m c)
def V325 (c : Dev nD) : FVec F S128x128 .f32 := k0_pay66 (V24 m c) (V41 c) (V42 c) (V43 c) (V109 m c) (V305 m c)
def V329 (c : Dev nD) : FVec F S128x1 .f32 := k0_pay67 (V24 m c) (V41 c) (V42 c) (V43 c) (V109 m c) (V114 m c) (V305 m c)
def V335 (c : Dev nD) : FVec F S128x128 .f32 := k0_pay68 (V24 m c) (V331 m c)
def V341 (c : Dev nD) : IVec S128x128 1 := k0_pay69 (V41 c) (V42 c) (V43 c)
def V357 (c : Dev nD) : Vec F S1x64x128 .bf16 := gM.view.readAt (Elt F) (Rect.unit (s := S2x1024x128) ![1, 256, 0] S1x64x128.size inb_S2x1024x128_S1x64x128_1_256_0).toLoadRect (gV m c)
def V383 (c : Dev nD) : Vec F S1x64x128 .bf16 := gM.view.readAt (Elt F) (Rect.unit (s := S2x1024x128) ![1, 320, 0] S1x64x128.size inb_S2x1024x128_S1x64x128_1_320_0).toLoadRect (gV m c)
def V348 (c : Dev nD) : FVec F S128x1 .f32 := k0_pay72 (V134 m c) (V335 m c) (V341 c)
def V351 (c : Dev nD) : FVec F S128x128 .f32 := k0_pay73 (V134 m c) (V335 m c) (V341 c)
def V355 (c : Dev nD) : FVec F S128x1 .f32 := k0_pay74 (V134 m c) (V139 m c) (V335 m c) (V341 c)
def V374 (c : Dev nD) : FVec F S128x1 .f32 := k0_pay77 (V30 m c) (V41 c) (V42 c) (V43 c) (V159 m c) (V357 m c)
def V377 (c : Dev nD) : FVec F S128x128 .f32 := k0_pay78 (V30 m c) (V41 c) (V42 c) (V43 c) (V159 m c) (V357 m c)
def V381 (c : Dev nD) : FVec F S128x1 .f32 := k0_pay79 (V30 m c) (V41 c) (V42 c) (V43 c) (V159 m c) (V164 m c) (V357 m c)
def V385 (c : Dev nD) : FVec F S128x128 .f32 := k0_pay80 (V30 m c) (V383 m c)
def V409 (c : Dev nD) : Vec F S1x64x128 .bf16 := gM.view.readAt (Elt F) (Rect.unit (s := S2x1024x128) ![1, 384, 0] S1x64x128.size inb_S2x1024x128_S1x64x128_1_384_0).toLoadRect (gV m c)
def V400 (c : Dev nD) : FVec F S128x1 .f32 := k0_pay83 (V41 c) (V42 c) (V43 c) (V184 m c) (V385 m c)
def V403 (c : Dev nD) : FVec F S128x128 .f32 := k0_pay84 (V41 c) (V42 c) (V43 c) (V184 m c) (V385 m c)
def V407 (c : Dev nD) : FVec F S128x1 .f32 := k0_pay85 (V41 c) (V42 c) (V43 c) (V184 m c) (V189 m c) (V385 m c)
def V426 (c : Dev nD) : FVec F S128x1 .f32 := k0_pay88 (V30 m c) (V41 c) (V42 c) (V43 c) (V209 m c) (V409 m c)
def V429 (c : Dev nD) : FVec F S128x128 .f32 := k0_pay89 (V30 m c) (V41 c) (V42 c) (V43 c) (V209 m c) (V409 m c)
def V430 (c : Dev nD) : FVec F S128x1 .f32 := k0_pay90 (V30 m c) (V41 c) (V42 c) (V43 c) (V209 m c) (V214 m c) (V409 m c)
def V431 (c : Dev nD) : FVec F S128 .f32 := k0_pay91 (V30 m c) (V41 c) (V42 c) (V43 c) (V209 m c) (V409 m c)
def V435 (c : Dev nD) : Vec F S1x64x128 .bf16 := gM.view.readAt (Elt F) (Rect.unit (s := S2x1024x128) ![1, 448, 0] S1x64x128.size inb_S2x1024x128_S1x64x128_1_448_0).toLoadRect (gV m c)
def V433 (c : Dev nD) : FVec F S128x1 .f32 := k0_pay92 (V430 m c) (V431 m c)
def V452 (c : Dev nD) : FVec F S128x1 .f32 := k0_pay95 (V30 m c) (V41 c) (V42 c) (V43 c) (V234 m c) (V435 m c)
def V455 (c : Dev nD) : FVec F S128x128 .f32 := k0_pay96 (V30 m c) (V41 c) (V42 c) (V43 c) (V234 m c) (V435 m c)
def V459 (c : Dev nD) : FVec F S128x1 .f32 := k0_pay97 (V30 m c) (V41 c) (V42 c) (V43 c) (V234 m c) (V239 m c) (V435 m c)
def V469 (c : Dev nD) : FVec F S128x64 .f32 := k0_pay98 (V68 m c) (V270 m c)
def V470 (c : Dev nD) : Vec F S1x64x128 .bf16 := gM.view.readAt (Elt F) (Rect.unit (s := S2x1024x128) ![1, 512, 0] S1x64x128.size inb_S2x1024x128_S1x64x128_1_512_0).toLoadRect (gV m c)
def V479 (c : Dev nD) : Vec F S1x64x128 .bf16 := gM.view.readAt (Elt F) (Rect.unit (s := S2x1024x128) ![1, 576, 0] S1x64x128.size inb_S2x1024x128_S1x64x128_1_576_0).toLoadRect (gV m c)
def V488 (c : Dev nD) : Vec F S1x64x128 .bf16 := gM.view.readAt (Elt F) (Rect.unit (s := S2x1024x128) ![1, 640, 0] S1x64x128.size inb_S2x1024x128_S1x64x128_1_640_0).toLoadRect (gV m c)
def V497 (c : Dev nD) : Vec F S1x64x128 .bf16 := gM.view.readAt (Elt F) (Rect.unit (s := S2x1024x128) ![1, 704, 0] S1x64x128.size inb_S2x1024x128_S1x64x128_1_704_0).toLoadRect (gV m c)
def V506 (c : Dev nD) : Vec F S256x512 .bf16 := wM.view.readAt (Elt F) (Rect.unit (s := S256x512) ![0, 0] S256x512.size inb_S256x512_S256x512_0_0).toLoadRect (iblk m c 3 t0_0)
def V508 (c : Dev nD) : FVec F S128x512 .f32 := k0_pay99 (V93 m c) (V118 m c) (V143 m c) (V273 m c) (V277 m c) (V296 m c) (V299 m c) (V303 m c) (V322 m c) (V325 m c) (V329 m c) (V348 m c) (V351 m c) (V355 m c) (V469 m c) (V470 m c) (V479 m c) (V488 m c) (V497 m c) (V506 m c)
def V514 (c : Dev nD) : Vec F S1x64x128 .bf16 := gM.view.readAt (Elt F) (Rect.unit (s := S2x1024x128) ![1, 768, 0] S1x64x128.size inb_S2x1024x128_S1x64x128_1_768_0).toLoadRect (gV m c)
def V523 (c : Dev nD) : Vec F S1x64x128 .bf16 := gM.view.readAt (Elt F) (Rect.unit (s := S2x1024x128) ![1, 832, 0] S1x64x128.size inb_S2x1024x128_S1x64x128_1_832_0).toLoadRect (gV m c)
def V532 (c : Dev nD) : Vec F S1x64x128 .bf16 := gM.view.readAt (Elt F) (Rect.unit (s := S2x1024x128) ![1, 896, 0] S1x64x128.size inb_S2x1024x128_S1x64x128_1_896_0).toLoadRect (gV m c)
def V541 (c : Dev nD) : Vec F S1x64x128 .bf16 := gM.view.readAt (Elt F) (Rect.unit (s := S2x1024x128) ![1, 960, 0] S1x64x128.size inb_S2x1024x128_S1x64x128_1_960_0).toLoadRect (gV m c)
def V549 (c : Dev nD) : FVec F S128x256 .bf16 := k0_pay101 (V168 m c) (V193 m c) (V218 m c) (V243 m c) (V374 m c) (V377 m c) (V381 m c) (V400 m c) (V403 m c) (V407 m c) (V426 m c) (V429 m c) (V433 m c) (V452 m c) (V455 m c) (V459 m c) (V514 m c) (V523 m c) (V532 m c) (V541 m c)
def V550 (c : Dev nD) : Vec F S256x512 .bf16 := wM.view.readAt (Elt F) (Rect.unit (s := S256x512) ![0, 0] S256x512.size inb_S256x512_S256x512_0_0).toLoadRect (iblk m c 3 t0_0)

end Cert.Swa
-- ==== Proof.Parts.lean ====
/-
# `Parts`: the parts of the body that only read slot 0 or slot 1 of the gathered buffer
-/
module

public import proofs.«01_k».proof.Proof.Rules
public import proofs.«01_k».proof.Proof.Chain

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The loads of the kernel from the gathered buffer lie in one window each. -/
theorem sub_g (s h : Fin 2) (o : Fin 3 → ℕ) (inb : ∀ a, o a + S1x64x128.size a ≤ S2x1024x128.size a)
    (h0 : o 0 = s.val) (h1 : 512 * h.val ≤ o 1) (h2 : o 1 + 64 ≤ 512 * h.val + 512) (h3 : o 2 = 0) :
    gM.view.setOn (Rect.unit (s := S2x1024x128) o S1x64x128.size inb).toLoadRect.set ⊆ (gWin s h).view.set := by
  intro i hi
  obtain ⟨j, hj, rfl⟩ := Finset.mem_map.mp hi
  refine (mem_gWin s h _).mpr ?_
  have hj := Rect.mem_set_unit.mp hj
  have e0 := hj 0
  have e1 := hj 1
  change o 0 ≤ (j 0).val ∧ (j 0).val < o 0 + 1 at e0
  change o 1 ≤ (j 1).val ∧ (j 1).val < o 1 + 64 at e1
  change (j 0).val = s.val ∧ (j 1).val / 512 = h.val
  omega

/-- A load from a window of the gathered buffer. -/
theorem wp_load_g (c : Dev nD) (q : PosShare TreeShare) (s h : Fin 2) {f : (cc0_scratch0 : Ref sig .tc).ty.Contents (Elt F)} {r : LoadRect S2x1024x128}
    {hl : gM.view.LoadsAt r} {α : Type} {Q : α → sProp 𝕄} {k : (r.shape.Idx → Elt F .bf16) → Prog (TpuEff nD τ sig (Elt F) Λ₀ .tc) α}
    (hr : gM.view.setOn r.set ⊆ (gWin s h).view.set) :
    gPts q c s h f ⊢ iprop((gPts q c s h f -∗ wp frame (wpE (defs₀ (F := F)) 𝒱₀ (c : Thread nD τ) none) Set.univ (k (gM.view.readAt (Elt F) r f)) Q)
      -∗ wp frame (wpE (defs₀ (F := F)) 𝒱₀ (c : Thread nD τ) none) Set.univ (.op (.load gM r hl) k) Q) :=
  wp_load 𝒱₀ (c : Thread nD τ) none Set.univ (m := gM) hr

variable (c : Dev nD)

/-- Part 8: it reads both windows of slot 0 and hands on what it computes. -/
theorem part8 (q : PosShare TreeShare) Kt :
    iprop((gPts q c 0 0 (gV m c) ∗ gPts q c 0 1 (gV m c)) ∗ ((gPts q c 0 0 (gV m c) ∗ gPts q c 0 1 (gV m c)) -∗ Kt ⟨V64 m c, V68 m c, V84 m c, V89 m c, V93 m c, V99 m c⟩))
      ⊢ wp frame (wpE (defs₀ (F := F)) 𝒱₀ (c : Thread nD τ) none) Set.univ
          (k0_part8 xM (Memref.isWhole_whole _) qM (Memref.isWhole_whole _) kM (Memref.isWhole_whole _) wM (Memref.isWhole_whole _)
            oM (Memref.isWhole_whole _) gM (Memref.isWhole_whole _) cc0_scratch1 cc0_scratch2
            (V24 m c) (V40 c) (V42 c) (V43 c) (V62 m c)) Kt := by
  simp only [k0_part8_eq_skeleton]; unfold k0_part8_skel
  unfold V64 V68 V84 V89 V93 V99 V65 V70 V90 V95
  simp only [Prog.lift, Prog.bind_op, Prog.bind_ret, Prog.pure_eq_ret]
  iintro ⟨⟨H0, H1⟩, Hk⟩
  iapply (wp_load_g c q 0 1 (sub_g _ _ _ _ rfl (by decide) (by decide) (by decide))) $$ H1; iintro H1
  iapply (wp_load_g c q 0 0 (sub_g _ _ _ _ rfl (by decide) (by decide) (by decide))) $$ H0; iintro H0
  iapply (wp_load_g c q 0 1 (sub_g _ _ _ _ rfl (by decide) (by decide) (by decide))) $$ H1; iintro H1
  iapply (wp_load_g c q 0 0 (sub_g _ _ _ _ rfl (by decide) (by decide) (by decide))) $$ H0; iintro H0
  rw [wp_ret]; imodintro
  iapply Hk
  isplitl [H0]; · iexact H0
  iexact H1

/-- Part 9: it reads both windows of slot 0 and hands on what it computes. -/
theorem part9 (q : PosShare TreeShare) Kt :
    iprop((gPts q c 0 0 (gV m c) ∗ gPts q c 0 1 (gV m c)) ∗ ((gPts q c 0 0 (gV m c) ∗ gPts q c 0 1 (gV m c)) -∗ Kt ⟨V109 m c, V114 m c, V118 m c, V134 m c, V137 m c, V139 m c⟩))
      ⊢ wp frame (wpE (defs₀ (F := F)) 𝒱₀ (c : Thread nD τ) none) Set.univ
          (k0_part9 xM (Memref.isWhole_whole _) qM (Memref.isWhole_whole _) kM (Memref.isWhole_whole _) wM (Memref.isWhole_whole _)
            oM (Memref.isWhole_whole _) gM (Memref.isWhole_whole _) cc0_scratch1 cc0_scratch2
            (V24 m c) (V40 c) (V42 c) (V43 c) (V99 m c)) Kt := by
  simp only [k0_part9_eq_skeleton]; unfold k0_part9_skel
  unfold V109 V114 V118 V134 V137 V139 V115 V120
  simp only [Prog.lift, Prog.bind_op, Prog.bind_ret, Prog.pure_eq_ret]
  iintro ⟨⟨H0, H1⟩, Hk⟩
  iapply (wp_load_g c q 0 1 (sub_g _ _ _ _ rfl (by decide) (by decide) (by decide))) $$ H1; iintro H1
  iapply (wp_load_g c q 0 0 (sub_g _ _ _ _ rfl (by decide) (by decide) (by decide))) $$ H0; iintro H0
  rw [wp_ret]; imodintro
  iapply Hk
  isplitl [H0]; · iexact H0
  iexact H1

/-- Part 10: it reads both windows of slot 0 and hands on what it computes. -/
theorem part10 (q : PosShare TreeShare) Kt :
    iprop((gPts q c 0 0 (gV m c) ∗ gPts q c 0 1 (gV m c)) ∗ ((gPts q c 0 0 (gV m c) ∗ gPts q c 0 1 (gV m c)) -∗ Kt ⟨V143 m c, V159 m c, V164 m c, V168 m c, V174 m c, V178 c, V179 c⟩))
      ⊢ wp frame (wpE (defs₀ (F := F)) 𝒱₀ (c : Thread nD τ) none) Set.univ
          (k0_part10 xM (Memref.isWhole_whole _) qM (Memref.isWhole_whole _) kM (Memref.isWhole_whole _) wM (Memref.isWhole_whole _)
            oM (Memref.isWhole_whole _) gM (Memref.isWhole_whole _) cc0_scratch1 cc0_scratch2
            (V30 m c) (V40 c) (V42 c) (V43 c) (V137 m c)) Kt := by
  simp only [k0_part10_eq_skeleton]; unfold k0_part10_skel
  unfold V143 V159 V164 V168 V174 V178 V179 V140 V145 V165 V170
  simp only [Prog.lift, Prog.bind_op, Prog.bind_ret, Prog.pure_eq_ret]
  iintro ⟨⟨H0, H1⟩, Hk⟩
  iapply (wp_load_g c q 0 1 (sub_g _ _ _ _ rfl (by decide) (by decide) (by decide))) $$ H1; iintro H1
  iapply (wp_load_g c q 0 0 (sub_g _ _ _ _ rfl (by decide) (by decide) (by decide))) $$ H0; iintro H0
  iapply (wp_load_g c q 0 1 (sub_g _ _ _ _ rfl (by decide) (by decide) (by decide))) $$ H1; iintro H1
  iapply (wp_load_g c q 0 0 (sub_g _ _ _ _ rfl (by decide) (by decide) (by decide))) $$ H0; iintro H0
  rw [wp_ret]; imodintro
  iapply Hk
  isplitl [H0]; · iexact H0
  iexact H1

/-- Part 11: it reads both windows of slot 0 and hands on what it computes. -/
theorem part11 (q : PosShare TreeShare) Kt :
    iprop((gPts q c 0 0 (gV m c) ∗ gPts q c 0 1 (gV m c)) ∗ ((gPts q c 0 0 (gV m c) ∗ gPts q c 0 1 (gV m c)) -∗ Kt ⟨V184 m c, V189 m c, V193 m c, V209 m c, V214 m c, V218 m c, V219 m c⟩))
      ⊢ wp frame (wpE (defs₀ (F := F)) 𝒱₀ (c : Thread nD τ) none) Set.univ
          (k0_part11 xM (Memref.isWhole_whole _) qM (Memref.isWhole_whole _) kM (Memref.isWhole_whole _) wM (Memref.isWhole_whole _)
            oM (Memref.isWhole_whole _) gM (Memref.isWhole_whole _) cc0_scratch1 cc0_scratch2
            (V30 m c) (V40 c) (V42 c) (V43 c) (V174 m c) (V178 c) (V179 c)) Kt := by
  simp only [k0_part11_eq_skeleton]; unfold k0_part11_skel
  unfold V184 V189 V193 V209 V214 V218 V219 V190 V195 V215
  simp only [Prog.lift, Prog.bind_op, Prog.bind_ret, Prog.pure_eq_ret]
  iintro ⟨⟨H0, H1⟩, Hk⟩
  iapply (wp_load_g c q 0 1 (sub_g _ _ _ _ rfl (by decide) (by decide) (by decide))) $$ H1; iintro H1
  iapply (wp_load_g c q 0 0 (sub_g _ _ _ _ rfl (by decide) (by decide) (by decide))) $$ H0; iintro H0
  iapply (wp_load_g c q 0 1 (sub_g _ _ _ _ rfl (by decide) (by decide) (by decide))) $$ H1; iintro H1
  rw [wp_ret]; imodintro
  iapply Hk
  isplitl [H0]; · iexact H0
  iexact H1

/-- Part 13: it reads window 0 of slot 1 and hands on what it computes. -/
theorem part13 (q : PosShare TreeShare) Kt :
    iprop((gPts q c 1 0 (gV m c)) ∗ ((gPts q c 1 0 (gV m c)) -∗ Kt ⟨V270 m c, V273 m c, V277 m c, V291 m c, V296 m c, V297 m c⟩))
      ⊢ wp frame (wpE (defs₀ (F := F)) 𝒱₀ (c : Thread nD τ) none) Set.univ
          (k0_part13 xM (Memref.isWhole_whole _) qM (Memref.isWhole_whole _) kM (Memref.isWhole_whole _) wM (Memref.isWhole_whole _)
            oM (Memref.isWhole_whole _) gM (Memref.isWhole_whole _) cc0_scratch1 cc0_scratch2
            (V24 m c) (V41 c) (V42 c) (V43 c) (V59 m c) (V64 m c) (V84 m c) (V252 m c)) Kt := by
  simp only [k0_part13_eq_skeleton]; unfold k0_part13_skel
  unfold V270 V273 V277 V291 V296 V297 V253 V279
  simp only [Prog.lift, Prog.bind_op, Prog.bind_ret, Prog.pure_eq_ret]
  iintro ⟨H0, Hk⟩
  iapply (wp_load_g c q 1 0 (sub_g _ _ _ _ rfl (by decide) (by decide) (by decide))) $$ H0; iintro H0
  iapply (wp_load_g c q 1 0 (sub_g _ _ _ _ rfl (by decide) (by decide) (by decide))) $$ H0; iintro H0
  rw [wp_ret]; imodintro
  iapply Hk
  iexact H0

/-- Part 14: it reads window 0 of slot 1 and hands on what it computes. -/
theorem part14 (q : PosShare TreeShare) Kt :
    iprop((gPts q c 1 0 (gV m c)) ∗ ((gPts q c 1 0 (gV m c)) -∗ Kt ⟨V299 m c, V303 m c, V322 m c, V325 m c, V329 m c, V335 m c, V341 c⟩))
      ⊢ wp frame (wpE (defs₀ (F := F)) 𝒱₀ (c : Thread nD τ) none) Set.univ
          (k0_part14 xM (Memref.isWhole_whole _) qM (Memref.isWhole_whole _) kM (Memref.isWhole_whole _) wM (Memref.isWhole_whole _)
            oM (Memref.isWhole_whole _) gM (Memref.isWhole_whole _) cc0_scratch1 cc0_scratch2
            (V24 m c) (V41 c) (V42 c) (V43 c) (V89 m c) (V109 m c) (V114 m c) (V291 m c) (V296 m c) (V297 m c)) Kt := by
  simp only [k0_part14_eq_skeleton]; unfold k0_part14_skel
  unfold V299 V303 V322 V325 V329 V335 V341 V305 V331
  simp only [Prog.lift, Prog.bind_op, Prog.bind_ret, Prog.pure_eq_ret]
  iintro ⟨H0, Hk⟩
  iapply (wp_load_g c q 1 0 (sub_g _ _ _ _ rfl (by decide) (by decide) (by decide))) $$ H0; iintro H0
  iapply (wp_load_g c q 1 0 (sub_g _ _ _ _ rfl (by decide) (by decide) (by decide))) $$ H0; iintro H0
  rw [wp_ret]; imodintro
  iapply Hk
  iexact H0

/-- Part 15: it reads window 0 of slot 1 and hands on what it computes. -/
theorem part15 (q : PosShare TreeShare) Kt :
    iprop((gPts q c 1 0 (gV m c)) ∗ ((gPts q c 1 0 (gV m c)) -∗ Kt ⟨V348 m c, V351 m c, V355 m c, V374 m c, V377 m c, V381 m c, V385 m c⟩))
      ⊢ wp frame (wpE (defs₀ (F := F)) 𝒱₀ (c : Thread nD τ) none) Set.univ
          (k0_part15 xM (Memref.isWhole_whole _) qM (Memref.isWhole_whole _) kM (Memref.isWhole_whole _) wM (Memref.isWhole_whole _)
            oM (Memref.isWhole_whole _) gM (Memref.isWhole_whole _) cc0_scratch1 cc0_scratch2
            (V30 m c) (V41 c) (V42 c) (V43 c) (V134 m c) (V139 m c) (V159 m c) (V164 m c) (V335 m c) (V341 c)) Kt := by
  simp only [k0_part15_eq_skeleton]; unfold k0_part15_skel
  unfold V348 V351 V355 V374 V377 V381 V385 V357 V383
  simp only [Prog.lift, Prog.bind_op, Prog.bind_ret, Prog.pure_eq_ret]
  iintro ⟨H0, Hk⟩
  iapply (wp_load_g c q 1 0 (sub_g _ _ _ _ rfl (by decide) (by decide) (by decide))) $$ H0; iintro H0
  iapply (wp_load_g c q 1 0 (sub_g _ _ _ _ rfl (by decide) (by decide) (by decide))) $$ H0; iintro H0
  rw [wp_ret]; imodintro
  iapply Hk
  iexact H0

/-- Part 16: it reads window 0 of slot 1 and hands on what it computes. -/
theorem part16 (q : PosShare TreeShare) Kt :
    iprop((gPts q c 1 0 (gV m c)) ∗ ((gPts q c 1 0 (gV m c)) -∗ Kt ⟨V400 m c, V403 m c, V407 m c, V426 m c, V429 m c, V430 m c, V431 m c⟩))
      ⊢ wp frame (wpE (defs₀ (F := F)) 𝒱₀ (c : Thread nD τ) none) Set.univ
          (k0_part16 xM (Memref.isWhole_whole _) qM (Memref.isWhole_whole _) kM (Memref.isWhole_whole _) wM (Memref.isWhole_whole _)
            oM (Memref.isWhole_whole _) gM (Memref.isWhole_whole _) cc0_scratch1 cc0_scratch2
            (V30 m c) (V41 c) (V42 c) (V43 c) (V184 m c) (V189 m c) (V209 m c) (V214 m c) (V385 m c)) Kt := by
  simp only [k0_part16_eq_skeleton]; unfold k0_part16_skel
  unfold V400 V403 V407 V426 V429 V430 V431 V409
  simp only [Prog.lift, Prog.bind_op, Prog.bind_ret, Prog.pure_eq_ret]
  iintro ⟨H0, Hk⟩
  iapply (wp_load_g c q 1 0 (sub_g _ _ _ _ rfl (by decide) (by decide) (by decide))) $$ H0; iintro H0
  rw [wp_ret]; imodintro
  iapply Hk
  iexact H0

end Cert.Swa
-- ==== Proof.Kit.lean ====
/-
# `Kit`: the rules of the body in the shapes in which it uses them

The two copies of the protocol (out of the staged block, out of slot 0), the barrier as one rule, the half shares,
what the store of slot 0 leaves and what the two stores of the result leave.
-/
module

public import proofs.«01_k».proof.Proof.Parts
public import Idealize.ShloMosaic.Lib.Pipeline.Value

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 9 → ℕ)

/-! ## Shares -/

/-- A window of the gathered buffer in halves. -/
theorem gPts_halves (c : Dev nD) (s h : Fin 2) (f : (cc0_scratch0 : Ref sig .tc).ty.Contents (Elt F)) :
    (gPts fullShare c s h f : sProp 𝕄) ⊣⊢ iprop(gPts fullShare.left c s h f ∗ gPts fullShare.right c s h f) := by
  unfold gPts
  exact pointsTo_share (PosShare.mem_left_op_right fullShare)

/-- The staged block, held at a share. -/
def stK (q : PosShare TreeShare) (c : Dev nD) : sProp 𝕄 := (c : Thread nD τ).loc cc0_stg2_0 ↦{q} kvb m c

/-- The staged block: a half to read it with, a quarter for either pair of copies. -/
theorem stK_shares (c : Dev nD) :
    (stK m fullShare c : sProp 𝕄) ⊣⊢ iprop(stK m fullShare.left c ∗ (kPts m fullShare.right.left c 0 ∗ kPts m fullShare.right.left c 1)
      ∗ (kPts m fullShare.right.right c 0 ∗ kPts m fullShare.right.right c 1)) := by
  have h1 : (stK m fullShare c : sProp 𝕄) ⊣⊢ iprop(stK m fullShare.left c ∗ stK m fullShare.right c) := by
    unfold stK; exact pointsTo_share (PosShare.mem_left_op_right fullShare)
  have h2 : (stK m fullShare.right c : sProp 𝕄) ⊣⊢ iprop(stK m fullShare.right.left c ∗ stK m fullShare.right.right c) := by
    unfold stK; exact pointsTo_share (PosShare.mem_left_op_right fullShare.right)
  have h3 : ∀ q, (stK m q c : sProp 𝕄) ⊣⊢ iprop(kPts m q c 0 ∗ kPts m q c 1) := fun q => by unfold stK; exact block_eq m q c
  constructor
  · iintro H
    ihave H := h1.1 $$ H
    icases H with ⟨H0, H⟩
    ihave H := h2.1 $$ H
    icases H with ⟨H1, H2⟩
    isplitl [H0]; · iexact H0
    isplitl [H1]
    · iapply (h3 fullShare.right.left).1; iexact H1
    · iapply (h3 fullShare.right.right).1; iexact H2
  · iintro ⟨H0, H1, H2⟩
    iapply h1.2
    isplitl [H0]; · iexact H0
    iapply h2.2
    isplitl [H1]
    · iapply (h3 fullShare.right.left).2; iexact H1
    · iapply (h3 fullShare.right.right).2; iexact H2

/-! ## The copies -/

/-- What a copy takes: the duties of its send cell and of its receive cell. -/
def tok (c : Dev nD) (i : Fin 4) (d : Dev nD) (s h : Fin 2) : sProp 𝕄 :=
  iprop(dutyTok ER (sendCell c i) 0 false ∗ reached ER (sendCell c i) 0 ∗ dutyTok ER (recvCell d s h) 0 false ∗ reached ER (recvCell d s h) 0)

/-- A copy of window `h` of an owner's staged block into slot `s` of a device whose slot holds that block. -/
theorem wp_copy_own (c n d : Dev nD) (hn : n = d) (hc : own c) (s h : Fin 2) (hs : (if s.val = 0 then fsrc d else ssrc d) = c)
    (hlR : live d (.dma (recvS s h)))
    {src : Memref sig .tc .vmem S512x128 .bf16} {dst : Memref sig (Dev.tc n : Thread nD τ).2.kind .vmem S512x128 .bf16} {sS sR : DmaSem sig}
    (hsrc' : src = kWin h) (hd : dst = gWin s h) (hsS : sS = sendS ⟨2 * s.val + h.val, by omega⟩) (hsR : sR = recvS s h)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O Orest : CellTallies nD τ sig Unit) (hO : O = Orest + tallyAt (recvCell d s h) () N) (W : Waits sig Unit) :
    iprop(known m K ∗ kPts m (if s.val = 0 then fullShare.right.left else fullShare.right.right) c h ∗ (∃ f, gPts fullShare d s h f)
        ∗ owes (c : Thread nD τ) O W ∗ tok c ⟨2 * s.val + h.val, by omega⟩ d s h)
      ⊢ iprop(((cred (tallyAt (sendCell c ⟨2 * s.val + h.val, by omega⟩) () N) ∗ owes (c : Thread nD τ) Orest W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hsrc'
  have key := wp_copy m K c n d hn ⟨2 * s.val + h.val, by omega⟩ s h (src := kWin h) (hsc := hsc) (hsrc := hsrc) (hdst := hdst) (hsem := hsem) (Q := Q) (k := k) hd hsS hsR
    (if s.val = 0 then fullShare.right.left else fullShare.right.right) (kvb m c) (live_send c _ (Or.inr hc)) hlR
    (Entails.of_eq (pay_send_own m c hc s h).symm) (fun f => land_k m c d s h hs f) O Orest hO W
  unfold tok
  exact key

/-- A copy of window `h` of a relay's slot 0 into slot 1 of its sibling. -/
theorem wp_copy_relay (c n : Dev nD) (hn : n = sib c) (hc : ¬ own c) (h : Fin 2)
    {src : Memref sig .tc .vmem S512x128 .bf16} {dst : Memref sig (Dev.tc n : Thread nD τ).2.kind .vmem S512x128 .bf16} {sS sR : DmaSem sig}
    (hsrc' : src = gWin 0 h) (hd : dst = gWin 1 h) (hsS : sS = sendS ⟨h.val, by omega⟩) (hsR : sR = recvS 1 h)
    {hsc : dst.view.ref.isScScratch = false} {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (O Orest : CellTallies nD τ sig Unit) (hO : O = Orest + tallyAt (recvCell (sib c) 1 h) () N) (W : Waits sig Unit) :
    iprop(known m K ∗ gPts fullShare.right c 0 h (gV m c) ∗ (∃ f, gPts fullShare (sib c) 1 h f)
        ∗ owes (c : Thread nD τ) O W ∗ tok c ⟨h.val, by omega⟩ (sib c) 1 h)
      ⊢ iprop(((cred (tallyAt (sendCell c ⟨h.val, by omega⟩) () N) ∗ owes (c : Thread nD τ) Orest W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hsrc'
  have key := wp_copy m K c n (sib c) hn ⟨h.val, by omega⟩ 1 h (src := gWin 0 h) (hsc := hsc) (hsrc := hsrc) (hdst := hdst) (hsem := hsem) (Q := Q) (k := k) hd hsS hsR
    fullShare.right (gV m c) (live_send c _ (Or.inl h.isLt)) (live_recv1 _ h)
    (Entails.of_eq (pay_send_relay m c hc h).symm) (fun f => land_g m c h f) O Orest hO W
  unfold tok
  exact key

/-! ## The barrier -/

/-- The barrier: a device hands slot 1 to its sibling and, if it is a relay, slot 0 to its mate; it gets theirs. The two
    signals go out in either order. -/
theorem wp_barrier (c n₁ n₂ : Dev nD) (h : (n₁ = mate c ∧ n₂ = sib c) ∨ (n₁ = sib c ∧ n₂ = mate c))
    {z₁ z₂ z₃ : ℤ} (hz₁ : z₁ = ((1 : ℕ) : ℤ)) (hz₂ : z₂ = ((1 : ℕ) : ℤ)) (hz₃ : z₃ = ((2 : ℕ) : ℤ)) {sm : Sem sig} (hsm : sm = barS)
    {α : Type} {Q : α → sProp 𝕄} {k : PUnit → Prog (TpuEff nD τ sig (Elt F) Λ₀ .tc) α} (W : Waits sig Unit) :
    iprop(known m K ∗ levAts L lv ∗ owes (c : Thread nD τ) (O₀ c) W
        ∗ (dutyTok ER (barCell (sib c)) 0 true ∗ dutyTok ER (barCell (mate c)) 0 false ∗ cred (tallyAt (barCell c) () 2) ∗ atPos ER (barCell c) 0 ∅ 0)
        ∗ ((∃ f, gPts fullShare c 1 0 f) ∗ (∃ f, gPts fullShare c 1 1 f) ∗ reached ER (recvCell c 1 0) 0 ∗ reached ER (recvCell c 1 1) 0)
        ∗ barPayF (mate c))
      ⊢ iprop((((∃ W', owes (c : Thread nD τ) (os c + om c) W') ∗ atPos ER (barCell c) (0 + 1) ∅ 0 ∗ barPayF c ∗ barPayT c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n₁, .tc) : Thread nD τ) sm z₁) fun _ => .op (.semSignal ((n₂, .tc) : Thread nD τ) sm z₂) fun _ => .op (.semWait sm z₃) k) Q) := by
  iintro ⟨#HK, #Hlev, HO, ⟨Ht, Hf, Hc, Hat⟩, Hs, Hm⟩ Hk
  rcases h with ⟨h1, h2⟩ | ⟨h1, h2⟩
  · iapply (wp_signal_mate m K c n₁ h1 hz₁ hsm (O₀ c) (os c + om c + tallyAt (barCell (sib c)) () 1)
      (by unfold O₀; rw [add_assoc (os c + om c)]) W) $$ [HO Hf Hm]
    · isplitr; · iexact HK
      isplitl [HO]; · iexact HO
      isplitl [Hf] <;> iassumption
    iintro HO
    iapply (wp_signal_sib m K c n₂ h2 hz₂ hsm _ (os c + om c) rfl W) $$ [HO Ht Hs]
    · isplitr; · iexact HK
      isplitl [HO]; · iexact HO
      isplitl [Ht] <;> iassumption
    iintro HO
    iapply (wp_barrier_wait m K c hz₃ hsm W) $$ [HO Hc Hat]
    · isplitr; · iexact HK
      isplitr; · iexact Hlev
      isplitl [HO]; · iexact HO
      isplitl [Hc] <;> iassumption
    iexact Hk
  · iapply (wp_signal_sib m K c n₁ h1 hz₁ hsm (O₀ c) (os c + om c + tallyAt (barCell (mate c)) () 1)
      (by unfold O₀; rw [add_assoc (os c + om c), add_comm (tallyAt (barCell (mate c)) () 1)]) W) $$ [HO Ht Hs]
    · isplitr; · iexact HK
      isplitl [HO]; · iexact HO
      isplitl [Ht] <;> iassumption
    iintro HO
    iapply (wp_signal_mate m K c n₂ h2 hz₂ hsm _ (os c + om c) rfl W) $$ [HO Hf Hm]
    · isplitr; · iexact HK
      isplitl [HO]; · iexact HO
      isplitl [Hf] <;> iassumption
    iintro HO
    iapply (wp_barrier_wait m K c hz₃ hsm W) $$ [HO Hc Hat]
    · isplitr; · iexact HK
      isplitr; · iexact Hlev
      isplitl [HO]; · iexact HO
      isplitl [Hc] <;> iassumption
    iexact Hk

/-! ## What the stores leave -/

/-- The rectangle of slot 0, whole. -/
abbrev rSlot : Rect S2x1024x128 := Rect.unit (s := S2x1024x128) ![0, 0, 0] S1x1024x128.size inb_S2x1024x128_S1x1024x128_0_0_0

/-- The store of the own block stays in slot 0. -/
theorem slot0_sub : gM.view.setOn rSlot.toLoadRect.set ⊆ slot0 := by
  intro i hi
  obtain ⟨j, hj, rfl⟩ := Finset.mem_map.mp hi
  refine (mem_slot0 _).mpr ?_
  have e0 := Rect.mem_set_unit.mp hj 0
  change 0 ≤ (j 0).val ∧ (j 0).val < 0 + 1 at e0
  change (j 0).val = 0
  omega

/-- And so does what the store overwrites. -/
theorem slot0_sub' : ((gM : Memref sig .tc .vmem S2x1024x128 .bf16).access rSlot).setOn Finset.univ ⊆ slot0 := by
  intro i hi
  obtain ⟨j, hj, rfl⟩ := Finset.mem_map.mp hi
  refine (mem_slot0 _).mpr ?_
  have := (j 0).isLt
  change (j 0).val < 1 at this
  change ((rSlot.emb j) 0 : ℕ) = 0
  rw [Rect.emb_apply]
  change 0 + 1 * (j 0).val = 0
  omega

/-- An owner's store leaves its own block in slot 0. -/
theorem slot0_written (c : Dev nD) (hc : own c) (f : (cc0_scratch0 : Ref sig .tc).ty.Contents (Elt F)) :
    ∀ i ∈ slot0, ((gM : Memref sig .tc .vmem S2x1024x128 .bf16).access rSlot).write (Elt F) f
      (k0_pay2 (kM.view.readAt (Elt F) (Rect.unit (s := S1024x128) ![0, 0] S1024x128.size inb_S1024x128_S1024x128_0_0).toLoadRect (kvb m c))) Finset.univ i = gV m c i := by
  intro i hi
  have h0 := (mem_slot0 i).mp hi
  have hr : kM.view.readAt (Elt F) (Rect.unit (s := S1024x128) ![0, 0] S1024x128.size inb_S1024x128_S1024x128_0_0).toLoadRect (kvb m c) = kvb m c :=
    Memref.readAt_unit_zero (Elt F) cc0_stg2_0 (by funext a; fin_cases a <;> rfl) _ _
  rw [hr]
  let j : S1x1024x128.Idx := Fin.cons ⟨0, Nat.one_pos⟩ (fun a : Fin 2 => (i a.succ : Fin _))
  have hj : i = ((gM : Memref sig .tc .vmem S2x1024x128 .bf16).access rSlot).emb j := by
    show i = rSlot.emb j
    funext a; apply Fin.ext; rw [Rect.emb_apply]
    fin_cases a
    · exact h0
    · show _ = 0 + 1 * (i 1).val; exact (by omega : (i 1).val = 0 + 1 * (i 1).val)
    · show _ = 0 + 1 * (i 2).val; exact (by omega : (i 2).val = 0 + 1 * (i 2).val)
  have e : ((gM : Memref sig .tc .vmem S2x1024x128 .bf16).access rSlot).write (Elt F) f (k0_pay2 (kvb m c)) Finset.univ i = k0_pay2 (kvb m c) j := by
    rw [hj, View.write_emb_of_mem _ _ (Finset.mem_univ j)]; rfl
  rw [e, gV_slot0 m c i h0, fsrc_own c hc]
  unfold k0_pay2
  refine (shapeCast_addUnit_apply ![1024, 128] _ _ j).trans ?_
  exact congrFun (shapeCast_self (kvb m c) _) _

/-- The two rectangles of the result. -/
abbrev rOut0 : Rect S2x128x512 := Rect.unit (s := S2x128x512) ![0, 0, 0] S1x128x512.size inb_S2x128x512_S1x128x512_0_0_0
/-- The rows of the result of batch 1. -/
abbrev rOut1 : Rect S2x128x512 := Rect.unit (s := S2x128x512) ![1, 0, 0] S1x128x512.size inb_S2x128x512_S1x128x512_1_0_0

/-- The two halves of the result as one buffer. -/
def outOf (w₀ w₁ : S1x128x512.Idx → Elt F .f32) : (cc0_stg4_0 : Ref sig .tc).ty.Contents (Elt F) := fun i =>
  let j : S1x128x512.Idx := Fin.cons ⟨0, Nat.one_pos⟩ (fun a : Fin 2 => ((i : S2x128x512.Idx) a.succ : Fin _))
  if ((i : S2x128x512.Idx) 0).val = 0 then w₀ j else w₁ j

/-- The two stores leave the two halves, whatever was there. -/
theorem out_written (f : (cc0_stg4_0 : Ref sig .tc).ty.Contents (Elt F)) (w₀ w₁ : S1x128x512.Idx → Elt F .f32) :
    ((oM : Memref sig .tc .vmem S2x128x512 .f32).access rOut1).write (Elt F)
      (((oM : Memref sig .tc .vmem S2x128x512 .f32).access rOut0).write (Elt F) f w₀ Finset.univ) w₁ Finset.univ = outOf w₀ w₁ := by
  funext i
  let j : S1x128x512.Idx := Fin.cons ⟨0, Nat.one_pos⟩ (fun a : Fin 2 => ((i : S2x128x512.Idx) a.succ : Fin _))
  have hi0 := ((i : S2x128x512.Idx) 0).isLt
  change ((i : S2x128x512.Idx) 0).val < 2 at hi0
  unfold outOf
  by_cases h0 : ((i : S2x128x512.Idx) 0).val = 0
  · have hj : i = ((oM : Memref sig .tc .vmem S2x128x512 .f32).access rOut0).emb j := by
      show i = rOut0.emb j
      funext a; apply Fin.ext; rw [Rect.emb_apply]
      fin_cases a
      · exact h0
      · exact (by omega : ((i : S2x128x512.Idx) 1).val = 0 + 1 * ((i : S2x128x512.Idx) 1).val)
      · exact (by omega : ((i : S2x128x512.Idx) 2).val = 0 + 1 * ((i : S2x128x512.Idx) 2).val)
    rw [View.write_of_not_mem]
    · rw [if_pos h0]
      conv_lhs => rw [hj]
      rw [View.write_emb_of_mem _ _ (Finset.mem_univ j)]; rfl
    · intro hm
      obtain ⟨x, -, hx⟩ := Finset.mem_map.mp hm
      have hx' : rOut1.emb x = i := hx
      have := congrArg (fun y : S2x128x512.Idx => (y 0).val) hx'
      change ((rOut1.emb x) 0 : ℕ) = _ at this
      rw [Rect.emb_apply] at this
      change 1 + 1 * (x 0).val = ((i : S2x128x512.Idx) 0).val at this
      omega
  · have hj : i = ((oM : Memref sig .tc .vmem S2x128x512 .f32).access rOut1).emb j := by
      show i = rOut1.emb j
      funext a; apply Fin.ext; rw [Rect.emb_apply]
      fin_cases a
      · exact (by omega : ((i : S2x128x512.Idx) 0).val = 1)
      · exact (by omega : ((i : S2x128x512.Idx) 1).val = 0 + 1 * ((i : S2x128x512.Idx) 1).val)
      · exact (by omega : ((i : S2x128x512.Idx) 2).val = 0 + 1 * ((i : S2x128x512.Idx) 2).val)
    rw [if_neg h0]
    conv_lhs => rw [hj]
    rw [View.write_emb_of_mem _ _ (Finset.mem_univ j)]; rfl

end Cert.Swa
-- ==== Proof.Front.lean ====
/-
# `Front`: the parts of the body that move blocks

The barrier, the copies an owner starts out of its staged block, its store of slot 0; the waits of a relay for slot 0
and the copies it starts out of it.
-/
module

public import proofs.«01_k».proof.Proof.Kit

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 9 → ℕ) (c : Dev nD)

/-- The staged windows that are only read: the queries' input, their weights, the output weights. -/
def stX : sProp 𝕄 := (c : Thread nD τ).loc cc0_stg0_0 ↦{fullShare} iblk m c 0 t0_0
/-- The staged projection of the queries. -/
def stQ : sProp 𝕄 := (c : Thread nD τ).loc cc0_stg1_0 ↦{fullShare} iblk m c 1 t0_0
/-- The staged projection of the output. -/
def stW : sProp 𝕄 := (c : Thread nD τ).loc cc0_stg3_0 ↦{fullShare} iblk m c 3 t0_0

/-- Loads from the staged windows. -/
theorem wp_load_x {r : LoadRect S2x128x512} {hl : xM.view.LoadsAt r} {α : Type} {Q : α → sProp 𝕄} {k : (r.shape.Idx → Elt F .bf16) → Prog (TpuEff nD τ sig (Elt F) Λ₀ .tc) α} :
    stX m c ⊢ iprop((stX m c -∗ wp frame (wpE (defs₀ (F := F)) 𝒱₀ (c : Thread nD τ) none) Set.univ (k (xM.view.readAt (Elt F) r (iblk m c 0 t0_0))) Q)
      -∗ wp frame (wpE (defs₀ (F := F)) 𝒱₀ (c : Thread nD τ) none) Set.univ (.op (.load xM r hl) k) Q) :=
  wp_load 𝒱₀ (c : Thread nD τ) none Set.univ (m := xM) (Finset.subset_univ _)
/-- A load of the queries' projection. -/
theorem wp_load_q {r : LoadRect S512x256} {hl : qM.view.LoadsAt r} {α : Type} {Q : α → sProp 𝕄} {k : (r.shape.Idx → Elt F .bf16) → Prog (TpuEff nD τ sig (Elt F) Λ₀ .tc) α} :
    stQ m c ⊢ iprop((stQ m c -∗ wp frame (wpE (defs₀ (F := F)) 𝒱₀ (c : Thread nD τ) none) Set.univ (k (qM.view.readAt (Elt F) r (iblk m c 1 t0_0))) Q)
      -∗ wp frame (wpE (defs₀ (F := F)) 𝒱₀ (c : Thread nD τ) none) Set.univ (.op (.load qM r hl) k) Q) :=
  wp_load 𝒱₀ (c : Thread nD τ) none Set.univ (m := qM) (Finset.subset_univ _)
/-- A load of the output's projection. -/
theorem wp_load_w {r : LoadRect S256x512} {hl : wM.view.LoadsAt r} {α : Type} {Q : α → sProp 𝕄} {k : (r.shape.Idx → Elt F .bf16) → Prog (TpuEff nD τ sig (Elt F) Λ₀ .tc) α} :
    stW m c ⊢ iprop((stW m c -∗ wp frame (wpE (defs₀ (F := F)) 𝒱₀ (c : Thread nD τ) none) Set.univ (k (wM.view.readAt (Elt F) r (iblk m c 3 t0_0))) Q)
      -∗ wp frame (wpE (defs₀ (F := F)) 𝒱₀ (c : Thread nD τ) none) Set.univ (.op (.load wM r hl) k) Q) :=
  wp_load 𝒱₀ (c : Thread nD τ) none Set.univ (m := wM) (Finset.subset_univ _)
/-- A load of the own block, at any share of it. -/
theorem wp_load_k (q : PosShare TreeShare) {r : LoadRect S1024x128} {hl : kM.view.LoadsAt r} {α : Type} {Q : α → sProp 𝕄} {k : (r.shape.Idx → Elt F .bf16) → Prog (TpuEff nD τ sig (Elt F) Λ₀ .tc) α} :
    stK m q c ⊢ iprop((stK m q c -∗ wp frame (wpE (defs₀ (F := F)) 𝒱₀ (c : Thread nD τ) none) Set.univ (k (kM.view.readAt (Elt F) r (kvb m c))) Q)
      -∗ wp frame (wpE (defs₀ (F := F)) 𝒱₀ (c : Thread nD τ) none) Set.univ (.op (.load kM r hl) k) Q) :=
  wp_load 𝒱₀ (c : Thread nD τ) none Set.univ (m := kM) (Finset.subset_univ _)
/-- A load from slot 0 whole, whatever it holds. -/
theorem wp_load_slot {f : (cc0_scratch0 : Ref sig .tc).ty.Contents (Elt F)} {hl : gM.view.LoadsAt rSlot.toLoadRect} {α : Type} {Q : α → sProp 𝕄}
    {k : (rSlot.toLoadRect.shape.Idx → Elt F .bf16) → Prog (TpuEff nD τ sig (Elt F) Λ₀ .tc) α} :
    gSlot fullShare c f ⊢ iprop((gSlot fullShare c f -∗ wp frame (wpE (defs₀ (F := F)) 𝒱₀ (c : Thread nD τ) none) Set.univ (k (gM.view.readAt (Elt F) rSlot.toLoadRect f)) Q)
      -∗ wp frame (wpE (defs₀ (F := F)) 𝒱₀ (c : Thread nD τ) none) Set.univ (.op (.load gM rSlot.toLoadRect hl) k) Q) :=
  wp_load 𝒱₀ (c : Thread nD τ) none Set.univ (m := gM) slot0_sub
/-- An owner's store of its own block in slot 0. -/
theorem wp_store_slot (hc : own c) {f : (cc0_scratch0 : Ref sig .tc).ty.Contents (Elt F)} {w : rSlot.shape.Idx → Elt F .bf16}
    (hw : w = k0_pay2 (kM.view.readAt (Elt F) (Rect.unit (s := S1024x128) ![0, 0] S1024x128.size inb_S1024x128_S1024x128_0_0).toLoadRect (kvb m c)))
    {hx : ((gM : Memref sig .tc .vmem S2x1024x128 .bf16).access rSlot).Stores Finset.univ} {hm : (Finset.univ : Finset rSlot.shape.Idx) = Finset.univ ∨ ∀ a, rSlot.stride a = 1}
    {α : Type} {Q : α → sProp 𝕄} {k : PUnit → Prog (TpuEff nD τ sig (Elt F) Λ₀ .tc) α} :
    gSlot fullShare c f ⊢ iprop((gSlot fullShare c (gV m c) -∗ wp frame (wpE (defs₀ (F := F)) 𝒱₀ (c : Thread nD τ) none) Set.univ (k ⟨⟩) Q)
      -∗ wp frame (wpE (defs₀ (F := F)) 𝒱₀ (c : Thread nD τ) none) Set.univ (.op (.store gM rSlot w Finset.univ hx hm) k) Q) := by
  subst hw
  have e : (gSlot fullShare c (gV m c) : sProp 𝕄) = gSlot fullShare c (((gM : Memref sig .tc .vmem S2x1024x128 .bf16).access rSlot).write (Elt F) f
      (k0_pay2 (kM.view.readAt (Elt F) (Rect.unit (s := S1024x128) ![0, 0] S1024x128.size inb_S1024x128_S1024x128_0_0).toLoadRect (kvb m c))) Finset.univ) :=
    (pointsTo_congr (slot0_written m c hc f)).symm
  rw [e]
  exact wp_store 𝒱₀ (c : Thread nD τ) none Set.univ (m := gM) (r := rSlot) (Mk := Finset.univ) slot0_sub'

/-- The two signals of the barrier go to the two partners. -/
theorem devs_eq : ((⟨k0_dev1 c, k0_dev1_lt c⟩ : Dev nD) = mate c ∧ (⟨k0_dev2 c, k0_dev2_lt c⟩ : Dev nD) = sib c)
    ∨ ((⟨k0_dev1 c, k0_dev1_lt c⟩ : Dev nD) = sib c ∧ (⟨k0_dev2 c, k0_dev2_lt c⟩ : Dev nD) = mate c) := by
  revert c; decide

/-- The owners' conditions, the relays' conditions. -/
theorem cases_own (hc : own c) : (c = 0 ∧ k0_cond1 c = 1#1 ∧ ¬ k0_cond2 c = 1#1 ∨ c = 1 ∧ ¬ k0_cond1 c = 1#1 ∧ k0_cond2 c = 1#1)
    ∧ ¬ k0_cond3 c = 1#1 ∧ ¬ k0_cond4 c = 1#1 := by revert c; decide
/-- And the relays' conditions. -/
theorem cases_relay (hc : ¬ own c) : (c = 2 ∧ k0_cond3 c = 1#1 ∧ ¬ k0_cond4 c = 1#1 ∨ c = 3 ∧ ¬ k0_cond3 c = 1#1 ∧ k0_cond4 c = 1#1)
    ∧ ¬ k0_cond1 c = 1#1 ∧ ¬ k0_cond2 c = 1#1 := by revert c; decide

/-- What the barrier takes, but for the mate's part. -/
def barKit : sProp 𝕄 :=
  iprop((dutyTok ER (barCell (sib c)) 0 true ∗ dutyTok ER (barCell (mate c)) 0 false ∗ cred (tallyAt (barCell c) () 2) ∗ atPos ER (barCell c) 0 ∅ 0)
    ∗ ((∃ f, gPts fullShare c 1 0 f) ∗ (∃ f, gPts fullShare c 1 1 f) ∗ reached ER (recvCell c 1 0) 0 ∗ reached ER (recvCell c 1 1) 0))

/-- What is left of the owed once an owner's two copies to its mate have gone. -/
theorem owed_own (hc : own c) : os c + om c = (os c + tallyAt (recvCell (mate c) 0 1) () N) + tallyAt (recvCell (mate c) 0 0) () N := by
  unfold om; rw [if_pos hc]; abel
/-- What is owed to the sibling, copy by copy. -/
theorem owed_sib : os c = (0 + tallyAt (recvCell (sib c) 1 1) () N) + tallyAt (recvCell (sib c) 1 0) () N := by
  unfold os; abel

/-- What an owner's copies take apart from its block and the landing windows: the duties of its send cells and of the
    receive cells, the landing receive cells' being open coming with the barrier. -/
def ownToks : sProp 𝕄 :=
  iprop((dutyTok ER (sendCell c 0) 0 false ∗ reached ER (sendCell c 0) 0 ∗ dutyTok ER (recvCell (mate c) 0 0) 0 false)
    ∗ (dutyTok ER (sendCell c 1) 0 false ∗ reached ER (sendCell c 1) 0 ∗ dutyTok ER (recvCell (mate c) 0 1) 0 false)
    ∗ (dutyTok ER (sendCell c 2) 0 false ∗ reached ER (sendCell c 2) 0 ∗ dutyTok ER (recvCell (sib c) 1 0) 0 false)
    ∗ (dutyTok ER (sendCell c 3) 0 false ∗ reached ER (sendCell c 3) 0 ∗ dutyTok ER (recvCell (sib c) 1 1) 0 false))
/-- What its copies leave an owner with: the credits of its send cells. -/
def ownCreds : sProp 𝕄 :=
  iprop(cred (tallyAt (sendCell c 0) () N) ∗ cred (tallyAt (sendCell c 1) () N) ∗ cred (tallyAt (sendCell c 2) () N) ∗ cred (tallyAt (sendCell c 3) () N))

/-- Both owners put the same value into slot 0. -/
theorem pay3_eq (v : Vec F S1024x128 .bf16) : k0_pay3 v = k0_pay2 v := rfl

/-- What an owner gets from its mate, and any device from its sibling, at the barrier. -/
theorem barPayF_open (hc : own c) : (barPayF c : sProp 𝕄) ⊢ iprop((∃ f, gPts fullShare (mate c) 0 0 f) ∗ (∃ f, gPts fullShare (mate c) 0 1 f)
    ∗ reached ER (recvCell (mate c) 0 0) 0 ∗ reached ER (recvCell (mate c) 0 1) 0) := by
  unfold barPayF; rw [if_pos hc]
/-- What the sibling hands over at the barrier, part by part. -/
theorem barPayT_open : (barPayT c : sProp 𝕄) ⊢ iprop((∃ f, gPts fullShare (sib c) 1 0 f) ∗ (∃ f, gPts fullShare (sib c) 1 1 f)
    ∗ reached ER (recvCell (sib c) 1 0) 0 ∗ reached ER (recvCell (sib c) 1 1) 0) := by
  unfold barPayT; exact BI.Entails.refl _

/-- Part 6 on an owner. -/
theorem part6_own (hc : own c) (W : Waits sig Unit) Kt :
    iprop((known m K ∗ levAts L lv ∗ owes (c : Thread nD τ) (O₀ c) W ∗ barKit c ∗ (∃ f, gSlot fullShare c f) ∗ ownToks c ∗ stX m c ∗ stQ m c ∗ stK m fullShare c)
        ∗ (((∃ W', owes (c : Thread nD τ) 0 W') ∗ atPos ER (barCell c) (0 + 1) ∅ 0 ∗ gSlot fullShare c (gV m c) ∗ ownCreds c ∗ stX m c ∗ stQ m c ∗ stK m fullShare.left c)
            -∗ Kt ⟨c, V2 c, V24 m c, V25 m c⟩))
      ⊢ wp frame (wpE (defs₀ (F := F)) 𝒱₀ (c : Thread nD τ) none) Set.univ
          (k0_part6 xM (Memref.isWhole_whole _) qM (Memref.isWhole_whole _) kM (Memref.isWhole_whole _) wM (Memref.isWhole_whole _)
            oM (Memref.isWhole_whole _) gM (Memref.isWhole_whole _) cc0_scratch1 cc0_scratch2) Kt := by
  simp only [k0_part6_eq_skeleton]; unfold k0_part6_skel
  unfold V24 V25 V19 V21 V2
  simp only [k0_part1_eq_skeleton, k0_part2_eq_skeleton]; unfold k0_part1_skel k0_part2_skel
  obtain ⟨hcase, -, -⟩ := cases_own c hc
  simp only [semSignalWord, semWaitWord, Prog.lift, Prog.bind_op, Prog.bind_ret, Prog.pure_eq_ret, Prog.bind_assoc, wp_deviceId, pay3_eq]
  iintro ⟨⟨#HK, #Hlev, HO, Hbar, ⟨%f, Hslot⟩, Ht, Hx, Hq, Hk⟩, Hkt⟩
  unfold barKit ownToks
  icases Hbar with ⟨Hb1, Hb2⟩
  icases Ht with ⟨⟨Hd0, #Hr0, He0⟩, ⟨Hd1, #Hr1, He1⟩, ⟨Hd2, #Hr2, He2⟩, ⟨Hd3, #Hr3, He3⟩⟩
  iapply (wp_barrier m K c _ _ (devs_eq c) (z₁ := (1#32).toInt) (z₂ := (1#32).toInt) (z₃ := (2#32).toInt) (sm := (SemArray.scalar (sig.barrier 0 rfl)).sem) rfl rfl rfl rfl W) $$ [HO Hb1 Hb2]
  · isplitr; · iexact HK
    isplitr; · iexact Hlev
    isplitl [HO]; · iexact HO
    isplitl [Hb1]; · iexact Hb1
    isplitl [Hb2]; · iexact Hb2
    iapply (barPayF_own c hc); iempintro
  iintro ⟨⟨%W1, HO⟩, HatB, HF, HT⟩
  ihave HF := (barPayF_open c hc) $$ HF
  ihave HT := (barPayT_open c) $$ HT
  icases HF with ⟨Hg00, Hg01, #Hq00, #Hq01⟩
  icases HT with ⟨Hg10, Hg11, #Hq10, #Hq11⟩
  ihave Hk := (stK_shares m c).1 $$ Hk
  icases Hk with ⟨Hk, ⟨Hk00, Hk01⟩, ⟨Hk10, Hk11⟩⟩
  rcases hcase with ⟨h0, hc1, hc2⟩ | ⟨h0, hc1, hc2⟩ <;>
  · simp only [hc1, hc2, ↓reduceDIte, Prog.bind_op, Prog.bind_ret, pay3_eq]
    iapply (wp_copy_own m K c _ (mate c) (by subst h0; rfl) hc 0 0 (by subst h0; rfl) (by subst h0; decide) rfl rfl rfl rfl _ _ (owed_own c hc) W1) $$ [Hk00 Hg00 HO Hd0 He0]
    · unfold tok
      isplitr; · iexact HK
      isplitl [Hk00]; · iexact Hk00
      isplitl [Hg00]; · iexact Hg00
      isplitl [HO]; · iexact HO
      isplitl [Hd0]; · iexact Hd0
      isplitr; · iexact Hr0
      isplitl [He0]; · iexact He0
      iexact Hq00
    iintro ⟨Hc0, HO⟩
    iapply (wp_copy_own m K c _ (mate c) (by subst h0; rfl) hc 0 1 (by subst h0; rfl) (by subst h0; decide) rfl rfl rfl rfl _ _ rfl W1) $$ [Hk01 Hg01 HO Hd1 He1]
    · unfold tok
      isplitr; · iexact HK
      isplitl [Hk01]; · iexact Hk01
      isplitl [Hg01]; · iexact Hg01
      isplitl [HO]; · iexact HO
      isplitl [Hd1]; · iexact Hd1
      isplitr; · iexact Hr1
      isplitl [He1]; · iexact He1
      iexact Hq01
    iintro ⟨Hc1, HO⟩
    iapply (wp_copy_own m K c _ (sib c) (by subst h0; rfl) hc 1 0 (by subst h0; rfl) (by subst h0; decide) rfl rfl rfl rfl _ _ (owed_sib c) W1) $$ [Hk10 Hg10 HO Hd2 He2]
    · unfold tok
      isplitr; · iexact HK
      isplitl [Hk10]; · iexact Hk10
      isplitl [Hg10]; · iexact Hg10
      isplitl [HO]; · iexact HO
      isplitl [Hd2]; · iexact Hd2
      isplitr; · iexact Hr2
      isplitl [He2]; · iexact He2
      iexact Hq10
    iintro ⟨Hc2, HO⟩
    iapply (wp_copy_own m K c _ (sib c) (by subst h0; rfl) hc 1 1 (by subst h0; rfl) (by subst h0; decide) rfl rfl rfl rfl _ _ rfl W1) $$ [Hk11 Hg11 HO Hd3 He3]
    · unfold tok
      isplitr; · iexact HK
      isplitl [Hk11]; · iexact Hk11
      isplitl [Hg11]; · iexact Hg11
      isplitl [HO]; · iexact HO
      isplitl [Hd3]; · iexact Hd3
      isplitr; · iexact Hr3
      isplitl [He3]; · iexact He3
      iexact Hq11
    iintro ⟨Hc3, HO⟩
    iapply (wp_load_k m c fullShare.left) $$ Hk; iintro Hk
    iapply (wp_load_slot c) $$ Hslot; iintro Hslot
    iapply (wp_store_slot m c hc rfl) $$ Hslot; iintro Hslot
    iapply (wp_load_x m c) $$ Hx; iintro Hx
    iapply (wp_load_q m c) $$ Hq; iintro Hq
    iapply (wp_load_x m c) $$ Hx; iintro Hx
    rw [wp_ret]; imodintro; iapply Hkt
    isplitl [HO]; · iexists W1; iexact HO
    isplitl [HatB]; · iexact HatB
    isplitl [Hslot]; · iexact Hslot
    isplitl [Hc0 Hc1 Hc2 Hc3]
    · unfold ownCreds
      isplitl [Hc0]; · iexact Hc0
      isplitl [Hc1]; · iexact Hc1
      isplitl [Hc2]; · iexact Hc2
      iexact Hc3
    isplitl [Hx]; · iexact Hx
    isplitl [Hq]; · iexact Hq
    iexact Hk

/-- What a relay's copies take: the duties of its send cells and of its sibling's receive cells. -/
def relayToks : sProp 𝕄 :=
  iprop((dutyTok ER (sendCell c 0) 0 false ∗ reached ER (sendCell c 0) 0 ∗ dutyTok ER (recvCell (sib c) 1 0) 0 false)
    ∗ (dutyTok ER (sendCell c 1) 0 false ∗ reached ER (sendCell c 1) 0 ∗ dutyTok ER (recvCell (sib c) 1 1) 0 false))
/-- What the relay's waits for slot 0 take. -/
def relayWaits : sProp 𝕄 :=
  iprop((cred (tallyAt (recvCell c 0 0) () N) ∗ atPos ER (recvCell c 0 0) 0 ∅ 0) ∗ (cred (tallyAt (recvCell c 0 1) () N) ∗ atPos ER (recvCell c 0 1) 0 ∅ 0))

/-- Part 6 on a relay: it hands slot 0 to its mate. -/
theorem part6_relay (hc : ¬ own c) (W : Waits sig Unit) Kt :
    iprop((known m K ∗ levAts L lv ∗ owes (c : Thread nD τ) (O₀ c) W ∗ barKit c ∗ (∃ f, gSlot fullShare c f) ∗ reached ER (recvCell c 0 0) 0 ∗ reached ER (recvCell c 0 1) 0 ∗ stX m c ∗ stQ m c)
        ∗ (((∃ W', owes (c : Thread nD τ) (os c) W') ∗ atPos ER (barCell c) (0 + 1) ∅ 0 ∗ barPayT c ∗ stX m c ∗ stQ m c)
            -∗ Kt ⟨c, V2 c, V24 m c, V25 m c⟩))
      ⊢ wp frame (wpE (defs₀ (F := F)) 𝒱₀ (c : Thread nD τ) none) Set.univ
          (k0_part6 xM (Memref.isWhole_whole _) qM (Memref.isWhole_whole _) kM (Memref.isWhole_whole _) wM (Memref.isWhole_whole _)
            oM (Memref.isWhole_whole _) gM (Memref.isWhole_whole _) cc0_scratch1 cc0_scratch2) Kt := by
  simp only [k0_part6_eq_skeleton]; unfold k0_part6_skel
  unfold V24 V25 V19 V21 V2
  obtain ⟨-, hc1, hc2⟩ := cases_relay c hc
  simp only [semSignalWord, semWaitWord, Prog.lift, Prog.bind_op, Prog.bind_ret, Prog.pure_eq_ret, Prog.bind_assoc, wp_deviceId]
  iintro ⟨⟨#HK, #Hlev, HO, Hbar, ⟨%f, Hslot⟩, #Hr0, #Hr1, Hx, Hq⟩, Hkt⟩
  unfold barKit
  icases Hbar with ⟨Hb1, Hb2⟩
  iapply (wp_barrier m K c _ _ (devs_eq c) (z₁ := (1#32).toInt) (z₂ := (1#32).toInt) (z₃ := (2#32).toInt) (sm := (SemArray.scalar (sig.barrier 0 rfl)).sem) rfl rfl rfl rfl W) $$ [HO Hb1 Hb2 Hslot]
  · isplitr; · iexact HK
    isplitr; · iexact Hlev
    isplitl [HO]; · iexact HO
    isplitl [Hb1]; · iexact Hb1
    isplitl [Hb2]; · iexact Hb2
    iapply (barPayF_relay c hc)
    ihave H := (gSlot_eq fullShare c f).1 $$ Hslot
    icases H with ⟨H0, H1⟩
    isplitl [H0]; · iexists f; iexact H0
    isplitl [H1]; · iexists f; iexact H1
    isplitr; · iexact Hr0
    iexact Hr1
  iintro ⟨⟨%W1, HO⟩, HatB, HF, HT⟩
  have e : os c + om c = os c := by unfold om; rw [if_neg hc, add_zero]
  simp only [hc1, hc2, ↓reduceDIte, Prog.bind_op, Prog.bind_ret]
  iapply (wp_load_x m c) $$ Hx; iintro Hx
  iapply (wp_load_q m c) $$ Hq; iintro Hq
  iapply (wp_load_x m c) $$ Hx; iintro Hx
  rw [wp_ret]; imodintro; iapply Hkt
  isplitl [HO]; · iexists W1; iapply (Entails.of_eq (congrArg (fun O => owes (c : Thread nD τ) O W1) e)); iexact HO
  isplitl [HatB]; · iexact HatB
  isplitl [HT]; · iexact HT
  isplitl [Hx]; · iexact Hx
  iexact Hq

/-- Part 7 on an owner: it reads. -/
theorem part7_own (hc : own c) Kt :
    iprop((stQ m c ∗ gPts fullShare.left c 0 0 (gV m c)) ∗ ((stQ m c ∗ gPts fullShare.left c 0 0 (gV m c))
            -∗ Kt ⟨V30 m c, V40 c, V41 c, V42 c, V43 c, V59 m c, V62 m c⟩))
      ⊢ wp frame (wpE (defs₀ (F := F)) 𝒱₀ (c : Thread nD τ) none) Set.univ
          (k0_part7 xM (Memref.isWhole_whole _) qM (Memref.isWhole_whole _) kM (Memref.isWhole_whole _) wM (Memref.isWhole_whole _)
            oM (Memref.isWhole_whole _) gM (Memref.isWhole_whole _) cc0_scratch1 cc0_scratch2 c (V2 c) (V24 m c) (V25 m c)) Kt := by
  simp only [k0_part7_eq_skeleton]; unfold k0_part7_skel
  unfold V30 V40 V41 V42 V43 V59 V62 V27 V45
  obtain ⟨-, hc3, hc4⟩ := cases_own c hc
  simp only [Prog.lift, Prog.bind_op, Prog.bind_ret, Prog.pure_eq_ret, Prog.bind_assoc]
  simp only [hc3, hc4, ↓reduceDIte, Prog.bind_op, Prog.bind_ret]
  iintro ⟨⟨Hq, H0⟩, Hkt⟩
  iapply (wp_load_q m c) $$ Hq; iintro Hq
  iapply (wp_load_g c fullShare.left 0 0 (sub_g _ _ _ _ rfl (by decide) (by decide) (by decide))) $$ H0; iintro H0
  rw [wp_ret]; imodintro; iapply Hkt
  isplitl [Hq]; · iexact Hq
  iexact H0

/-- Part 7 on a relay: it waits for either window of slot 0 and forwards half of it; it reads the other half. -/
theorem part7_relay (hc : ¬ own c) (W : Waits sig Unit) Kt :
    iprop((known m K ∗ levAts L lv ∗ owes (c : Thread nD τ) (os c) W ∗ barPayT c ∗ relayToks c ∗ relayWaits c ∗ stQ m c)
        ∗ (((∃ W', owes (c : Thread nD τ) 0 W') ∗ (gPts fullShare.left c 0 0 (gV m c) ∗ gPts fullShare.left c 0 1 (gV m c))
              ∗ (cred (tallyAt (sendCell c 0) () N) ∗ cred (tallyAt (sendCell c 1) () N))
              ∗ (atPos ER (recvCell c 0 0) (0 + 1) ∅ 0 ∗ atPos ER (recvCell c 0 1) (0 + 1) ∅ 0) ∗ stQ m c)
            -∗ Kt ⟨V30 m c, V40 c, V41 c, V42 c, V43 c, V59 m c, V62 m c⟩))
      ⊢ wp frame (wpE (defs₀ (F := F)) 𝒱₀ (c : Thread nD τ) none) Set.univ
          (k0_part7 xM (Memref.isWhole_whole _) qM (Memref.isWhole_whole _) kM (Memref.isWhole_whole _) wM (Memref.isWhole_whole _)
            oM (Memref.isWhole_whole _) gM (Memref.isWhole_whole _) cc0_scratch1 cc0_scratch2 c (V2 c) (V24 m c) (V25 m c)) Kt := by
  simp only [k0_part7_eq_skeleton]; unfold k0_part7_skel
  unfold V30 V40 V41 V42 V43 V59 V62 V27 V45
  simp only [k0_part3_eq_skeleton, k0_part4_eq_skeleton]; unfold k0_part3_skel k0_part4_skel
  obtain ⟨hcase, -, -⟩ := cases_relay c hc
  simp only [Prog.lift, Prog.bind_op, Prog.bind_ret, Prog.pure_eq_ret, Prog.bind_assoc]
  unfold relayToks relayWaits
  iintro ⟨⟨#HK, #Hlev, HO, HT, ⟨⟨Hd0, #Hr0, He0⟩, ⟨Hd1, #Hr1, He1⟩⟩, ⟨⟨Hc0, Ha0⟩, ⟨Hc1, Ha1⟩⟩, Hq⟩, Hkt⟩
  ihave HT := (barPayT_open c) $$ HT
  icases HT with ⟨Hg10, Hg11, #Hq10, #Hq11⟩
  iapply (wp_load_q m c) $$ Hq; iintro Hq
  rcases hcase with ⟨h0, hc1, hc2⟩ | ⟨h0, hc1, hc2⟩ <;>
  · simp only [hc1, hc2, ↓reduceDIte, Prog.bind_op, Prog.bind_ret]
    iapply (wp_wait_recv m K c 0 0 (live_recv0 c 0 hc) 2 (le_of_eq (lv_recv0 c 0)) (os c) (above_os c) W rfl (credit_gWin 0 0)) $$ [Hc0 HO Ha0]
    · isplitr; · iexact HK
      isplitr; · iexact Hlev
      isplitl [Hc0]; · iexact Hc0
      isplitl [HO]; · iexact HO
      iexact Ha0
    iintro ⟨⟨%W1, HO⟩, Ha0, Hw0⟩
    ihave Hw0 := (gPts_halves c 0 0 (gV m c)).1 $$ Hw0
    icases Hw0 with ⟨Hl0, Hf0⟩
    iapply (wp_copy_relay m K c _ (by subst h0; rfl) hc 0 rfl rfl rfl rfl _ _ (owed_sib c) W1) $$ [Hf0 Hg10 HO Hd0 He0]
    · unfold tok
      isplitr; · iexact HK
      isplitl [Hf0]; · iexact Hf0
      isplitl [Hg10]; · iexact Hg10
      isplitl [HO]; · iexact HO
      isplitl [Hd0]; · iexact Hd0
      isplitr; · iexact Hr0
      isplitl [He0]; · iexact He0
      iexact Hq10
    iintro ⟨Hs0, HO⟩
    iapply (wp_wait_recv m K c 0 1 (live_recv0 c 1 hc) 2 (le_of_eq (lv_recv0 c 1)) _ (above_add (above_zero 2) (above_at _ _ _ (lt_of_lt_of_eq (by decide) (lv_recv1 _ 1).symm))) W1 rfl (credit_gWin 0 1)) $$ [Hc1 HO Ha1]
    · isplitr; · iexact HK
      isplitr; · iexact Hlev
      isplitl [Hc1]; · iexact Hc1
      isplitl [HO]; · iexact HO
      iexact Ha1
    iintro ⟨⟨%W2, HO⟩, Ha1, Hw1⟩
    ihave Hw1 := (gPts_halves c 0 1 (gV m c)).1 $$ Hw1
    icases Hw1 with ⟨Hl1, Hf1⟩
    iapply (wp_copy_relay m K c _ (by subst h0; rfl) hc 1 rfl rfl rfl rfl _ _ rfl W2) $$ [Hf1 Hg11 HO Hd1 He1]
    · unfold tok
      isplitr; · iexact HK
      isplitl [Hf1]; · iexact Hf1
      isplitl [Hg11]; · iexact Hg11
      isplitl [HO]; · iexact HO
      isplitl [Hd1]; · iexact Hd1
      isplitr; · iexact Hr1
      isplitl [He1]; · iexact He1
      iexact Hq11
    iintro ⟨Hs1, HO⟩
    iapply (wp_load_g c fullShare.left 0 0 (sub_g _ _ _ _ rfl (by decide) (by decide) (by decide))) $$ Hl0; iintro Hl0
    rw [wp_ret]; imodintro; iapply Hkt
    isplitl [HO]; · iexists W2; iexact HO
    isplitl [Hl0 Hl1]
    · isplitl [Hl0]; · iexact Hl0
      iexact Hl1
    isplitl [Hs0 Hs1]
    · isplitl [Hs0]; · iexact Hs0
      iexact Hs1
    isplitl [Ha0 Ha1]
    · isplitl [Ha0]; · iexact Ha0
      iexact Ha1
    iexact Hq

end Cert.Swa
-- ==== Proof.Tail.lean ====
/-
# `Tail`: the parts that wait for slot 1, the parts that write the result, the last waits
-/
module

public import proofs.«01_k».proof.Proof.Front

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 9 → ℕ) (c : Dev nD)

/-- What the wait for a window of slot 1 takes, and what it leaves. -/
def wait1 (h : Fin 2) : sProp 𝕄 := iprop(cred (tallyAt (recvCell c 1 h) () N) ∗ atPos ER (recvCell c 1 h) 0 ∅ 0)
/-- What the wait on a half of slot 1 leaves. -/
def got1 (h : Fin 2) : sProp 𝕄 := iprop(atPos ER (recvCell c 1 h) (0 + 1) ∅ 0 ∗ gPts fullShare c 1 h (gV m c))

/-- Part 12: its loads from slot 0, then the wait for window 0 of slot 1. -/
theorem part12 (q : PosShare TreeShare) (W : Waits sig Unit) Kt :
    iprop((known m K ∗ levAts L lv ∗ owes (c : Thread nD τ) 0 W ∗ wait1 c 0 ∗ gPts q c 0 0 (gV m c) ∗ gPts q c 0 1 (gV m c))
        ∗ (((∃ W', owes (c : Thread nD τ) 0 W') ∗ got1 m c 0 ∗ gPts q c 0 0 (gV m c) ∗ gPts q c 0 1 (gV m c)) -∗ Kt ⟨V234 m c, V239 m c, V243 m c, V252 m c⟩))
      ⊢ wp frame (wpE (defs₀ (F := F)) 𝒱₀ (c : Thread nD τ) none) Set.univ
          (k0_part12 xM (Memref.isWhole_whole _) qM (Memref.isWhole_whole _) kM (Memref.isWhole_whole _) wM (Memref.isWhole_whole _)
            oM (Memref.isWhole_whole _) gM (Memref.isWhole_whole _) cc0_scratch1 cc0_scratch2
            (V2 c) (V24 m c) (V40 c) (V42 c) (V43 c) (V219 m c)) Kt := by
  simp only [k0_part12_eq_skeleton]; unfold k0_part12_skel
  unfold V234 V239 V243 V252 V220 V240
  simp only [Prog.lift, Prog.bind_op, Prog.bind_ret, Prog.pure_eq_ret]
  unfold wait1 got1
  iintro ⟨⟨#HK, #Hlev, HO, ⟨Hc, Ha⟩, H0, H1⟩, Hk⟩
  iapply (wp_load_g c q 0 0 (sub_g _ _ _ _ rfl (by decide) (by decide) (by decide))) $$ H0; iintro H0
  iapply (wp_load_g c q 0 1 (sub_g _ _ _ _ rfl (by decide) (by decide) (by decide))) $$ H1; iintro H1
  iapply (wp_wait_recv m K c 1 0 (live_recv1 c 0) 3 (le_of_eq (lv_recv1 c 0)) 0 (above_zero 3) W rfl (credit_gWin 1 0)) $$ [Hc HO Ha]
  · isplitr; · iexact HK
    isplitr; · iexact Hlev
    isplitl [Hc]; · iexact Hc
    isplitl [HO]; · iexact HO
    iexact Ha
  iintro ⟨HO, Ha, Hw⟩
  rw [wp_ret]; imodintro; iapply Hk
  isplitl [HO]; · iexact HO
  isplitl [Ha Hw]
  · isplitl [Ha]; · iexact Ha
    iexact Hw
  isplitl [H0]; · iexact H0
  iexact H1

/-- Part 17: its load from window 0 of slot 1, then the wait for window 1. -/
theorem part17 (W : Waits sig Unit) Kt :
    iprop((known m K ∗ levAts L lv ∗ owes (c : Thread nD τ) 0 W ∗ wait1 c 1 ∗ gPts fullShare c 1 0 (gV m c))
        ∗ (((∃ W', owes (c : Thread nD τ) 0 W') ∗ got1 m c 1 ∗ gPts fullShare c 1 0 (gV m c)) -∗ Kt ⟨V433 m c, V452 m c, V455 m c, V459 m c, V469 m c⟩))
      ⊢ wp frame (wpE (defs₀ (F := F)) 𝒱₀ (c : Thread nD τ) none) Set.univ
          (k0_part17 xM (Memref.isWhole_whole _) qM (Memref.isWhole_whole _) kM (Memref.isWhole_whole _) wM (Memref.isWhole_whole _)
            oM (Memref.isWhole_whole _) gM (Memref.isWhole_whole _) cc0_scratch1 cc0_scratch2
            (V2 c) (V30 m c) (V41 c) (V42 c) (V43 c) (V68 m c) (V234 m c) (V239 m c) (V270 m c) (V430 m c) (V431 m c)) Kt := by
  simp only [k0_part17_eq_skeleton]; unfold k0_part17_skel
  unfold V433 V452 V455 V459 V469 V435
  simp only [Prog.lift, Prog.bind_op, Prog.bind_ret, Prog.pure_eq_ret]
  unfold wait1 got1
  iintro ⟨⟨#HK, #Hlev, HO, ⟨Hc, Ha⟩, H0⟩, Hk⟩
  iapply (wp_load_g c fullShare 1 0 (sub_g _ _ _ _ rfl (by decide) (by decide) (by decide))) $$ H0; iintro H0
  iapply (wp_wait_recv m K c 1 1 (live_recv1 c 1) 3 (le_of_eq (lv_recv1 c 1)) 0 (above_zero 3) W rfl (credit_gWin 1 1)) $$ [Hc HO Ha]
  · isplitr; · iexact HK
    isplitr; · iexact Hlev
    isplitl [Hc]; · iexact Hc
    isplitl [HO]; · iexact HO
    iexact Ha
  iintro ⟨HO, Ha, Hw⟩
  rw [wp_ret]; imodintro; iapply Hk
  isplitl [HO]; · iexact HO
  isplitl [Ha Hw]
  · isplitl [Ha]; · iexact Ha
    iexact Hw
  iexact H0

/-- Part 18: loads from window 1 of slot 1 and of the output weights. -/
theorem part18 Kt :
    iprop((gPts fullShare c 1 1 (gV m c) ∗ stW m c) ∗ ((gPts fullShare c 1 1 (gV m c) ∗ stW m c) -∗ Kt (V508 m c)))
      ⊢ wp frame (wpE (defs₀ (F := F)) 𝒱₀ (c : Thread nD τ) none) Set.univ
          (k0_part18 xM (Memref.isWhole_whole _) qM (Memref.isWhole_whole _) kM (Memref.isWhole_whole _) wM (Memref.isWhole_whole _)
            oM (Memref.isWhole_whole _) gM (Memref.isWhole_whole _) cc0_scratch1 cc0_scratch2
            (V93 m c) (V118 m c) (V143 m c) (V273 m c) (V277 m c) (V296 m c) (V299 m c) (V303 m c) (V322 m c) (V325 m c) (V329 m c) (V348 m c) (V351 m c) (V355 m c) (V469 m c)) Kt := by
  simp only [k0_part18_eq_skeleton]; unfold k0_part18_skel
  unfold V508 V470 V479 V488 V497 V506
  simp only [Prog.lift, Prog.bind_op, Prog.bind_ret, Prog.pure_eq_ret]
  iintro ⟨⟨H0, Hw⟩, Hk⟩
  iapply (wp_load_g c fullShare 1 1 (sub_g _ _ _ _ rfl (by decide) (by decide) (by decide))) $$ H0; iintro H0
  iapply (wp_load_g c fullShare 1 1 (sub_g _ _ _ _ rfl (by decide) (by decide) (by decide))) $$ H0; iintro H0
  iapply (wp_load_g c fullShare 1 1 (sub_g _ _ _ _ rfl (by decide) (by decide) (by decide))) $$ H0; iintro H0
  iapply (wp_load_g c fullShare 1 1 (sub_g _ _ _ _ rfl (by decide) (by decide) (by decide))) $$ H0; iintro H0
  iapply (wp_load_w m c) $$ Hw; iintro Hw
  rw [wp_ret]; imodintro; iapply Hk
  isplitl [H0]; · iexact H0
  iexact Hw

/-- The result's staged window, holding `f`. -/
def stO (f : (cc0_stg4_0 : Ref sig .tc).ty.Contents (Elt F)) : sProp 𝕄 := (c : Thread nD τ).loc cc0_stg4_0 ↦{fullShare} f
/-- The result's staged window once its first half is stored over `f`. -/
def half (f : (cc0_stg4_0 : Ref sig .tc).ty.Contents (Elt F)) : (cc0_stg4_0 : Ref sig .tc).ty.Contents (Elt F) :=
  ((oM : Memref sig .tc .vmem S2x128x512 .f32).access rOut0).write (Elt F) f (k0_pay100 (V508 m c)) Finset.univ
/-- What the device's result is. -/
def outV : (cc0_stg4_0 : Ref sig .tc).ty.Contents (Elt F) := outOf (k0_pay100 (V508 m c)) (k0_pay1 (V549 m c) (V550 m c))

/-- A load from the result's buffer. -/
theorem wp_load_o {f : (cc0_stg4_0 : Ref sig .tc).ty.Contents (Elt F)} {r : LoadRect S2x128x512} {hl : oM.view.LoadsAt r} {α : Type} {Q : α → sProp 𝕄} {k : (r.shape.Idx → Elt F .f32) → Prog (TpuEff nD τ sig (Elt F) Λ₀ .tc) α} :
    stO c f ⊢ iprop((stO c f -∗ wp frame (wpE (defs₀ (F := F)) 𝒱₀ (c : Thread nD τ) none) Set.univ (k (oM.view.readAt (Elt F) r f)) Q)
      -∗ wp frame (wpE (defs₀ (F := F)) 𝒱₀ (c : Thread nD τ) none) Set.univ (.op (.load oM r hl) k) Q) :=
  wp_load 𝒱₀ (c : Thread nD τ) none Set.univ (m := oM) (Finset.subset_univ _)
/-- A store into the result's buffer. -/
theorem wp_store_o {f : (cc0_stg4_0 : Ref sig .tc).ty.Contents (Elt F)} {r : Rect S2x128x512} {w : r.shape.Idx → Elt F .f32}
    {hx : ((oM : Memref sig .tc .vmem S2x128x512 .f32).access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    stO c f ⊢ iprop((stO c (((oM : Memref sig .tc .vmem S2x128x512 .f32).access r).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store oM r w Finset.univ hx hm) k) Q) :=
  wp_store 𝒱₀ (c : Thread nD τ) none Set.univ (m := oM) (r := r) (Mk := Finset.univ) (Finset.subset_univ _)

/-- Part 19: the store of the first half of the result, the last loads of slot 1. -/
theorem part19 (f : (cc0_stg4_0 : Ref sig .tc).ty.Contents (Elt F)) Kt :
    iprop((gPts fullShare c 1 1 (gV m c) ∗ stO c f) ∗ ((gPts fullShare c 1 1 (gV m c) ∗ stO c (half m c f)) -∗ Kt (V549 m c)))
      ⊢ wp frame (wpE (defs₀ (F := F)) 𝒱₀ (c : Thread nD τ) none) Set.univ
          (k0_part19 xM (Memref.isWhole_whole _) qM (Memref.isWhole_whole _) kM (Memref.isWhole_whole _) wM (Memref.isWhole_whole _)
            oM (Memref.isWhole_whole _) gM (Memref.isWhole_whole _) cc0_scratch1 cc0_scratch2
            (V168 m c) (V193 m c) (V218 m c) (V243 m c) (V374 m c) (V377 m c) (V381 m c) (V400 m c) (V403 m c) (V407 m c) (V426 m c) (V429 m c) (V433 m c) (V452 m c) (V455 m c) (V459 m c) (V508 m c)) Kt := by
  simp only [k0_part19_eq_skeleton]; unfold k0_part19_skel
  unfold V549 V514 V523 V532 V541
  simp only [Prog.lift, Prog.bind_op, Prog.bind_ret, Prog.pure_eq_ret]
  iintro ⟨⟨H0, Ho⟩, Hk⟩
  iapply (wp_load_o c) $$ Ho; iintro Ho
  iapply (wp_store_o c) $$ Ho; iintro Ho
  iapply (wp_load_g c fullShare 1 1 (sub_g _ _ _ _ rfl (by decide) (by decide) (by decide))) $$ H0; iintro H0
  iapply (wp_load_g c fullShare 1 1 (sub_g _ _ _ _ rfl (by decide) (by decide) (by decide))) $$ H0; iintro H0
  iapply (wp_load_g c fullShare 1 1 (sub_g _ _ _ _ rfl (by decide) (by decide) (by decide))) $$ H0; iintro H0
  iapply (wp_load_g c fullShare 1 1 (sub_g _ _ _ _ rfl (by decide) (by decide) (by decide))) $$ H0; iintro H0
  rw [wp_ret]; imodintro; iapply Hk
  isplitl [H0]; · iexact H0
  unfold half; iexact Ho

/-! ## The last waits -/

/-- The wait for the copy `i`, with its credit. -/
def waitS (i : Fin 4) : sProp 𝕄 := iprop(cred (tallyAt (sendCell c i) () N) ∗ atPos ER (sendCell c i) 0 ∅ 0)
/-- What the wait on a send leaves. -/
def gotS (i : Fin 4) : sProp 𝕄 := iprop(atPos ER (sendCell c i) (0 + 1) ∅ 0 ∗ dmaPay m c (sendS i).val)

/-- One of the last waits. -/
theorem wp_last (i : Fin 4) (hq : live c (.dma (sendS i))) {q' : DmaSem sig} (hq' : q' = sendS i)
    {src dst : Memref sig .tc .vmem S512x128 .bf16} {hsrc : src.view.WordExact} {hdst : dst.view.WordExact} (hN : dst.view.dmaCredit = N)
    {α : Type} {Q : α → sProp 𝕄} {k : PUnit → Prog (TpuEff nD τ sig (Elt F) Λ₀ .tc) α} :
    iprop(known m K ∗ levAts L lv ∗ (∃ W, owes (c : Thread nD τ) 0 W) ∗ waitS c i)
      ⊢ iprop((((∃ W', owes (c : Thread nD τ) 0 W') ∗ gotS m c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q' src dst hsrc hdst) k) Q) := by
  unfold waitS gotS
  iintro ⟨#HK, #Hlev, ⟨%W, HO⟩, ⟨Hc, Ha⟩⟩ Hk
  iapply (wp_wait_send m K c i hq W hq' hN) $$ [Hc HO Ha]
  · isplitr; · iexact HK
    isplitr; · iexact Hlev
    isplitl [Hc]; · iexact Hc
    isplitl [HO]; · iexact HO
    iexact Ha
  iintro ⟨HO, Ha, Hp⟩
  iapply Hk
  isplitl [HO]; · iexact HO
  isplitl [Ha]; · iexact Ha
  iexact Hp

end Cert.Swa
-- ==== Proof.Body.lean ====
/-
# `Body`: the body of the kernel on any device

The parts in their order; an owner and a relay differ in what they hold between the first parts and the last waits only.
-/
module

public import proofs.«01_k».proof.Proof.Tail

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Fin 9 → ℕ) (c : Dev nD)

/-! ## What a device holds -/

/-- The tokens a device pays with: either partner's barrier, its send cells, either partner's receive cells. -/
def payToks : sProp 𝕄 :=
  iprop((dutyTok ER (barCell (sib c)) 0 true ∗ dutyTok ER (barCell (mate c)) 0 false)
    ∗ (dutyTok ER (sendCell c 0) 0 false ∗ dutyTok ER (sendCell c 1) 0 false ∗ dutyTok ER (sendCell c 2) 0 false ∗ dutyTok ER (sendCell c 3) 0 false)
    ∗ (dutyTok ER (recvCell (mate c) 0 0) 0 false ∗ dutyTok ER (recvCell (mate c) 0 1) 0 false)
    ∗ (dutyTok ER (recvCell (sib c) 1 0) 0 false ∗ dutyTok ER (recvCell (sib c) 1 1) 0 false))
/-- The credits a device waits with: the barrier's, slot 1's, and a relay's for slot 0. -/
def creds : sProp 𝕄 :=
  iprop(cred (tallyAt (barCell c) () 2) ∗ (cred (tallyAt (recvCell c 1 0) () N) ∗ cred (tallyAt (recvCell c 1 1) () N))
    ∗ (if own c then iprop(emp) else iprop(cred (tallyAt (recvCell c 0 0) () N) ∗ cred (tallyAt (recvCell c 0 1) () N))))
/-- An open cell at its first round. -/
def opened (g : GSem nD τ sig) : sProp 𝕄 := iprop(atPos ER g 0 ∅ 0 ∗ reached ER g 0)
/-- The device's positions on its cells. -/
def cellsIn : sProp 𝕄 :=
  iprop(atPos ER (barCell c) 0 ∅ 0 ∗ (opened (sendCell c 0) ∗ opened (sendCell c 1) ∗ opened (sendCell c 2) ∗ opened (sendCell c 3))
    ∗ (opened (recvCell c 0 0) ∗ opened (recvCell c 0 1) ∗ opened (recvCell c 1 0) ∗ opened (recvCell c 1 1)))
/-- The device's counters, back at zero. -/
def cellsOut : sProp 𝕄 :=
  iprop(semVal (barCell c) 0 ∗ (semVal (sendCell c 0) 0 ∗ semVal (sendCell c 1) 0 ∗ semVal (sendCell c 2) 0 ∗ semVal (sendCell c 3) 0)
    ∗ (semVal (recvCell c 0 0) 0 ∗ semVal (recvCell c 0 1) 0 ∗ semVal (recvCell c 1 0) 0 ∗ semVal (recvCell c 1 1) 0))
/-- The gathered buffer at some contents. -/
def scratch : sProp 𝕄 := iprop(∃ f : (cc0_scratch0 : Ref sig .tc).ty.Contents (Elt F), (c : Thread nD τ).loc cc0_scratch0 ↦{fullShare} f)

/-- What the body takes. -/
def bodyIn (W : Waits sig Unit) : sProp 𝕄 :=
  iprop(known m K ∗ levAts L lv ∗ owes (c : Thread nD τ) (O₀ c) W ∗ payToks c ∗ creds c ∗ cellsIn c ∗ scratch c
    ∗ stX m c ∗ stQ m c ∗ stK m fullShare c ∗ stW m c ∗ (∃ f, stO c f))
/-- What the body gives back: its windows, the result in the last. -/
def bodyOut : sProp 𝕄 :=
  iprop((∃ W', owes (c : Thread nD τ) 0 W') ∗ cellsOut c ∗ scratch c ∗ stX m c ∗ stQ m c ∗ stK m fullShare c ∗ stW m c ∗ stO c (outV m c))

/-- Between parts 6 and 7: an owner has its own block in slot 0, a relay what its sibling handed over. -/
def mid6 : sProp 𝕄 :=
  if own c then iprop((∃ W', owes (c : Thread nD τ) 0 W') ∗ gSlot fullShare c (gV m c) ∗ ownCreds c ∗ stK m fullShare.left c
      ∗ (atPos ER (recvCell c 0 0) 0 ∅ 0 ∗ atPos ER (recvCell c 0 1) 0 ∅ 0))
  else iprop((∃ W', owes (c : Thread nD τ) (os c) W') ∗ barPayT c ∗ relayToks c ∗ relayWaits c ∗ stK m fullShare c)
/-- What is set aside while the device computes. -/
def rest7 : sProp 𝕄 :=
  if own c then iprop((gPts fullShare.right c 0 0 (gV m c) ∗ gPts fullShare.right c 0 1 (gV m c)) ∗ ownCreds c ∗ stK m fullShare.left c
      ∗ (atPos ER (recvCell c 0 0) 0 ∅ 0 ∗ atPos ER (recvCell c 0 1) 0 ∅ 0))
  else iprop((cred (tallyAt (sendCell c 0) () N) ∗ cred (tallyAt (sendCell c 1) () N))
      ∗ (atPos ER (recvCell c 0 0) (0 + 1) ∅ 0 ∗ atPos ER (recvCell c 0 1) (0 + 1) ∅ 0) ∗ stK m fullShare c)
/-- Before the last waits, the send cells at their first round. -/
def atSends : sProp 𝕄 :=
  iprop(atPos ER (sendCell c 0) 0 ∅ 0 ∗ atPos ER (sendCell c 1) 0 ∅ 0 ∗ atPos ER (sendCell c 2) 0 ∅ 0 ∗ atPos ER (sendCell c 3) 0 ∅ 0)

/-- An owner's credits. -/
theorem creds_own (hc : own c) : (creds c : sProp 𝕄) ⊢ iprop(cred (tallyAt (barCell c) () 2) ∗ (cred (tallyAt (recvCell c 1 0) () N) ∗ cred (tallyAt (recvCell c 1 1) () N)) ∗ emp) := by
  unfold creds; rw [if_pos hc]
/-- A relay's credits. -/
theorem creds_relay (hc : ¬ own c) : (creds c : sProp 𝕄) ⊢ iprop(cred (tallyAt (barCell c) () 2) ∗ (cred (tallyAt (recvCell c 1 0) () N) ∗ cred (tallyAt (recvCell c 1 1) () N))
    ∗ (cred (tallyAt (recvCell c 0 0) () N) ∗ cred (tallyAt (recvCell c 0 1) () N))) := by
  unfold creds; rw [if_neg hc]

/-- Part 6 on any device. -/
theorem part6 (W : Waits sig Unit) Kt :
    iprop((known m K ∗ levAts L lv ∗ owes (c : Thread nD τ) (O₀ c) W ∗ payToks c ∗ creds c ∗ cellsIn c ∗ scratch c ∗ stX m c ∗ stQ m c ∗ stK m fullShare c)
        ∗ ((mid6 m c ∗ atPos ER (barCell c) (0 + 1) ∅ 0 ∗ atSends c ∗ (wait1 c 0 ∗ wait1 c 1) ∗ stX m c ∗ stQ m c)
            -∗ Kt ⟨c, V2 c, V24 m c, V25 m c⟩))
      ⊢ wp frame (wpE (defs₀ (F := F)) 𝒱₀ (c : Thread nD τ) none) Set.univ
          (k0_part6 xM (Memref.isWhole_whole _) qM (Memref.isWhole_whole _) kM (Memref.isWhole_whole _) wM (Memref.isWhole_whole _)
            oM (Memref.isWhole_whole _) gM (Memref.isWhole_whole _) cc0_scratch1 cc0_scratch2) Kt := by
  unfold scratch
  iintro ⟨⟨#HK, #Hlev, HO, Ht, Hc, Hcl, ⟨%f, Hg⟩, Hx, Hq, Hk⟩, Hkt⟩
  unfold payToks cellsIn opened
  icases Ht with ⟨⟨Hts, Htm⟩, ⟨Hd0, Hd1, Hd2, Hd3⟩, ⟨Hm0, Hm1⟩, ⟨He0, He1⟩⟩
  icases Hcl with ⟨HatB, ⟨⟨Hs0, #Hr0⟩, ⟨Hs1, #Hr1⟩, ⟨Hs2, #Hr2⟩, ⟨Hs3, #Hr3⟩⟩, ⟨Ha00, #Hr00⟩, ⟨Ha01, #Hr01⟩, ⟨Ha10, #Hr10⟩, ⟨Ha11, #Hr11⟩⟩
  ihave Hg := (scratch_eq fullShare c f).1 $$ Hg
  icases Hg with ⟨Hg0, Hg10, Hg11⟩
  by_cases hc : own c
  · ihave Hc := (creds_own c hc) $$ Hc
    icases Hc with ⟨HcB, ⟨Hc10, Hc11⟩, -⟩
    iapply (part6_own m K c hc W Kt)
    isplitl [HO Hts Htm HcB HatB Hg0 Hg10 Hg11 Hd0 Hd1 Hd2 Hd3 Hm0 Hm1 He0 He1 Hx Hq Hk]
    · unfold barKit ownToks
      isplitr; · iexact HK
      isplitr; · iexact Hlev
      isplitl [HO]; · iexact HO
      isplitl [Hts Htm HcB HatB Hg10 Hg11]
      · isplitl [Hts Htm HcB HatB]
        · isplitl [Hts]; · iexact Hts
          isplitl [Htm]; · iexact Htm
          isplitl [HcB] <;> iassumption
        isplitl [Hg10]; · iexists f; iexact Hg10
        isplitl [Hg11]; · iexists f; iexact Hg11
        isplitr; · iexact Hr10
        iexact Hr11
      isplitl [Hg0]; · iexists f; iexact Hg0
      isplitl [Hd0 Hd1 Hd2 Hd3 Hm0 Hm1 He0 He1]
      · isplitl [Hd0 Hm0]
        · isplitl [Hd0]; · iexact Hd0
          isplitr; · iexact Hr0
          iexact Hm0
        isplitl [Hd1 Hm1]
        · isplitl [Hd1]; · iexact Hd1
          isplitr; · iexact Hr1
          iexact Hm1
        isplitl [Hd2 He0]
        · isplitl [Hd2]; · iexact Hd2
          isplitr; · iexact Hr2
          iexact He0
        isplitl [Hd3]; · iexact Hd3
        isplitr; · iexact Hr3
        iexact He1
      isplitl [Hx]; · iexact Hx
      isplitl [Hq]; · iexact Hq
      iexact Hk
    iintro ⟨HO, HatB, Hg, Hcs, Hx, Hq, Hk⟩
    iapply Hkt
    unfold mid6 atSends wait1
    isplitl [HO Hg Hcs Hk Ha00 Ha01]
    · iapply (Entails.of_eq (if_pos hc).symm)
      isplitl [HO]; · iexact HO
      isplitl [Hg]; · iexact Hg
      isplitl [Hcs]; · iexact Hcs
      isplitl [Hk]; · iexact Hk
      isplitl [Ha00] <;> iassumption
    isplitl [HatB]; · iexact HatB
    isplitl [Hs0 Hs1 Hs2 Hs3]
    · isplitl [Hs0]; · iexact Hs0
      isplitl [Hs1]; · iexact Hs1
      isplitl [Hs2] <;> iassumption
    isplitl [Hc10 Hc11 Ha10 Ha11]
    · isplitl [Hc10 Ha10]
      · isplitl [Hc10] <;> iassumption
      isplitl [Hc11] <;> iassumption
    isplitl [Hx] <;> iassumption
  · ihave Hc := (creds_relay c hc) $$ Hc
    icases Hc with ⟨HcB, ⟨Hc10, Hc11⟩, ⟨Hc00, Hc01⟩⟩
    iapply (part6_relay m K c hc W Kt)
    isplitl [HO Hts Htm HcB HatB Hg0 Hg10 Hg11 Hx Hq]
    · unfold barKit
      isplitr; · iexact HK
      isplitr; · iexact Hlev
      isplitl [HO]; · iexact HO
      isplitl [Hts Htm HcB HatB Hg10 Hg11]
      · isplitl [Hts Htm HcB HatB]
        · isplitl [Hts]; · iexact Hts
          isplitl [Htm]; · iexact Htm
          isplitl [HcB] <;> iassumption
        isplitl [Hg10]; · iexists f; iexact Hg10
        isplitl [Hg11]; · iexists f; iexact Hg11
        isplitr; · iexact Hr10
        iexact Hr11
      isplitl [Hg0]; · iexists f; iexact Hg0
      isplitr; · iexact Hr00
      isplitr; · iexact Hr01
      isplitl [Hx] <;> iassumption
    iintro ⟨HO, HatB, HT, Hx, Hq⟩
    iapply Hkt
    unfold mid6 atSends wait1
    isplitl [HO HT Hd0 Hd1 He0 He1 Hc00 Hc01 Ha00 Ha01 Hk]
    · iapply (Entails.of_eq (if_neg hc).symm)
      unfold relayToks relayWaits
      isplitl [HO]; · iexact HO
      isplitl [HT]; · iexact HT
      isplitl [Hd0 Hd1 He0 He1]
      · isplitl [Hd0 He0]
        · isplitl [Hd0]; · iexact Hd0
          isplitr; · iexact Hr0
          iexact He0
        isplitl [Hd1]; · iexact Hd1
        isplitr; · iexact Hr1
        iexact He1
      isplitl [Hc00 Hc01 Ha00 Ha01]
      · isplitl [Hc00 Ha00]
        · isplitl [Hc00] <;> iassumption
        isplitl [Hc01] <;> iassumption
      iexact Hk
    isplitl [HatB]; · iexact HatB
    isplitl [Hs0 Hs1 Hs2 Hs3]
    · isplitl [Hs0]; · iexact Hs0
      isplitl [Hs1]; · iexact Hs1
      isplitl [Hs2] <;> iassumption
    isplitl [Hc10 Hc11 Ha10 Ha11]
    · isplitl [Hc10 Ha10]
      · isplitl [Hc10] <;> iassumption
      isplitl [Hc11] <;> iassumption
    isplitl [Hx] <;> iassumption

/-- What an owner holds after part 6. -/
theorem mid6_own (hc : own c) : (mid6 m c : sProp 𝕄) ⊢ iprop((∃ W', owes (c : Thread nD τ) 0 W') ∗ gSlot fullShare c (gV m c) ∗ ownCreds c ∗ stK m fullShare.left c
      ∗ (atPos ER (recvCell c 0 0) 0 ∅ 0 ∗ atPos ER (recvCell c 0 1) 0 ∅ 0)) := by
  unfold mid6; rw [if_pos hc]
/-- What a relay holds after part 6. -/
theorem mid6_relay (hc : ¬ own c) : (mid6 m c : sProp 𝕄) ⊢ iprop((∃ W', owes (c : Thread nD τ) (os c) W') ∗ barPayT c ∗ relayToks c ∗ relayWaits c ∗ stK m fullShare c) := by
  unfold mid6; rw [if_neg hc]

/-- Part 7 on any device: after it, either half of slot 0 is there to be read. -/
theorem part7 Kt :
    iprop((known m K ∗ levAts L lv ∗ mid6 m c ∗ stQ m c)
        ∗ (((∃ W', owes (c : Thread nD τ) 0 W') ∗ (gPts fullShare.left c 0 0 (gV m c) ∗ gPts fullShare.left c 0 1 (gV m c)) ∗ rest7 m c ∗ stQ m c)
            -∗ Kt ⟨V30 m c, V40 c, V41 c, V42 c, V43 c, V59 m c, V62 m c⟩))
      ⊢ wp frame (wpE (defs₀ (F := F)) 𝒱₀ (c : Thread nD τ) none) Set.univ
          (k0_part7 xM (Memref.isWhole_whole _) qM (Memref.isWhole_whole _) kM (Memref.isWhole_whole _) wM (Memref.isWhole_whole _)
            oM (Memref.isWhole_whole _) gM (Memref.isWhole_whole _) cc0_scratch1 cc0_scratch2 c (V2 c) (V24 m c) (V25 m c)) Kt := by
  iintro ⟨⟨#HK, #Hlev, Hm, Hq⟩, Hkt⟩
  by_cases hc : own c
  · ihave Hm := (mid6_own m c hc) $$ Hm
    icases Hm with ⟨HO, Hg, Hcs, Hk, Ha⟩
    ihave Hg := (gSlot_eq fullShare c (gV m c)).1 $$ Hg
    icases Hg with ⟨H0, H1⟩
    ihave H0 := (gPts_halves c 0 0 (gV m c)).1 $$ H0
    icases H0 with ⟨Hl0, Hr0⟩
    ihave H1 := (gPts_halves c 0 1 (gV m c)).1 $$ H1
    icases H1 with ⟨Hl1, Hr1⟩
    iapply (part7_own m c hc Kt)
    isplitl [Hq Hl0]
    · isplitl [Hq] <;> iassumption
    iintro ⟨Hq, Hl0⟩
    iapply Hkt
    isplitl [HO]; · iexact HO
    isplitl [Hl0 Hl1]
    · isplitl [Hl0] <;> iassumption
    isplitr [Hq]
    · unfold rest7
      iapply (Entails.of_eq (if_pos hc).symm)
      isplitl [Hr0 Hr1]
      · isplitl [Hr0] <;> iassumption
      isplitl [Hcs]; · iexact Hcs
      isplitl [Hk] <;> iassumption
    iexact Hq
  · ihave Hm := (mid6_relay m c hc) $$ Hm
    icases Hm with ⟨⟨%W, HO⟩, HT, Ht, Hw, Hk⟩
    iapply (part7_relay m K c hc W Kt)
    isplitl [HO HT Ht Hw Hq]
    · isplitr; · iexact HK
      isplitr; · iexact Hlev
      isplitl [HO]; · iexact HO
      isplitl [HT]; · iexact HT
      isplitl [Ht]; · iexact Ht
      isplitl [Hw] <;> iassumption
    iintro ⟨HO, Hl, Hcs, Ha, Hq⟩
    iapply Hkt
    isplitl [HO]; · iexact HO
    isplitl [Hl]; · iexact Hl
    isplitr [Hq]
    · unfold rest7
      iapply (Entails.of_eq (if_neg hc).symm)
      isplitl [Hcs]; · iexact Hcs
      isplitl [Ha] <;> iassumption
    iexact Hq

/-- What is left to an owner after part 7. -/
theorem rest7_own (hc : own c) : (rest7 m c : sProp 𝕄) ⊢ iprop((gPts fullShare.right c 0 0 (gV m c) ∗ gPts fullShare.right c 0 1 (gV m c)) ∗ ownCreds c ∗ stK m fullShare.left c
      ∗ (atPos ER (recvCell c 0 0) 0 ∅ 0 ∗ atPos ER (recvCell c 0 1) 0 ∅ 0)) := by
  unfold rest7; rw [if_pos hc]
/-- What is left to a relay after part 7. -/
theorem rest7_relay (hc : ¬ own c) : (rest7 m c : sProp 𝕄) ⊢ iprop((cred (tallyAt (sendCell c 0) () N) ∗ cred (tallyAt (sendCell c 1) () N))
      ∗ (atPos ER (recvCell c 0 0) (0 + 1) ∅ 0 ∗ atPos ER (recvCell c 0 1) (0 + 1) ∅ 0) ∗ stK m fullShare c) := by
  unfold rest7; rw [if_neg hc]

/-! ## The end -/

/-- The conditions of the last waits: the owners' and the relays'. -/
theorem last_cond : (own c ∧ Scalar.cmpi .ne (Scalar.extui (Scalar.ori (Scalar.cmpi .eq (V2 c) 0#32) (Scalar.cmpi .eq (V2 c) 1#32)) : BitVec 32) 0#32 = 1#1
      ∧ ¬ Scalar.cmpi .ne (Scalar.extui (Scalar.ori (Scalar.cmpi .eq (V2 c) 2#32) (Scalar.cmpi .eq (V2 c) 3#32)) : BitVec 32) 0#32 = 1#1)
    ∨ (¬ own c ∧ ¬ Scalar.cmpi .ne (Scalar.extui (Scalar.ori (Scalar.cmpi .eq (V2 c) 0#32) (Scalar.cmpi .eq (V2 c) 1#32)) : BitVec 32) 0#32 = 1#1
      ∧ Scalar.cmpi .ne (Scalar.extui (Scalar.ori (Scalar.cmpi .eq (V2 c) 2#32) (Scalar.cmpi .eq (V2 c) 3#32)) : BitVec 32) 0#32 = 1#1) := by
  revert c; decide

/-- A relay's last two send cells are never used. -/
theorem dead_send (hc : ¬ own c) (i : Fin 4) (hi : 2 ≤ i.val) : ¬ live c (.dma (sendS i)) := by revert i c; decide
/-- An owner's receive cells of slot 0 are never used. -/
theorem dead_recv (hc : own c) (h : Fin 2) : ¬ live c (.dma (recvS 0 h)) := by revert h c; decide

/-- Both slots whole again. -/
theorem scratch_back (f : (cc0_scratch0 : Ref sig .tc).ty.Contents (Elt F)) :
    iprop((gPts fullShare.left c 0 0 f ∗ gPts fullShare.left c 0 1 f) ∗ (gPts fullShare.right c 0 0 f ∗ gPts fullShare.right c 0 1 f)
      ∗ gPts fullShare c 1 0 f ∗ gPts fullShare c 1 1 f) ⊢ (scratch c : sProp 𝕄) := by
  unfold scratch
  iintro ⟨⟨Hl0, Hl1⟩, ⟨Hr0, Hr1⟩, H10, H11⟩
  iexists f
  iapply (scratch_eq fullShare c f).2
  isplitl [Hl0 Hl1 Hr0 Hr1]
  · iapply (gSlot_eq fullShare c f).2
    isplitl [Hl0 Hr0]
    · iapply (gPts_halves c 0 0 f).2
      isplitl [Hl0] <;> iassumption
    iapply (gPts_halves c 0 1 f).2
    isplitl [Hl1] <;> iassumption
  isplitl [H10] <;> iassumption

/-- The cells of an owner close. -/
theorem close_own (hc : own c) :
    iprop(known m K ∗ atPos ER (barCell c) (0 + 1) ∅ 0
      ∗ (atPos ER (sendCell c 0) (0 + 1) ∅ 0 ∗ atPos ER (sendCell c 1) (0 + 1) ∅ 0 ∗ atPos ER (sendCell c 2) (0 + 1) ∅ 0 ∗ atPos ER (sendCell c 3) (0 + 1) ∅ 0)
      ∗ (atPos ER (recvCell c 0 0) 0 ∅ 0 ∗ atPos ER (recvCell c 0 1) 0 ∅ 0) ∗ atPos ER (recvCell c 1 0) (0 + 1) ∅ 0 ∗ atPos ER (recvCell c 1 1) (0 + 1) ∅ 0)
      ⊢ (iprop(|={Set.univ}[frame]=> cellsOut c) : sProp 𝕄) := by
  iintro ⟨#HK, HB, ⟨H0, H1, H2, H3⟩, ⟨H4, H5⟩, H6, H7⟩
  imod (close_bar m K c) $$ [HB] with HB
  · isplitr; · iexact HK
    iexact HB
  imod (close_send m K c 0) $$ [H0] with H0
  · isplitr; · iexact HK
    iexact H0
  imod (close_send m K c 1) $$ [H1] with H1
  · isplitr; · iexact HK
    iexact H1
  imod (close_send m K c 2) $$ [H2] with H2
  · isplitr; · iexact HK
    iexact H2
  imod (close_send m K c 3) $$ [H3] with H3
  · isplitr; · iexact HK
    iexact H3
  imod (close_recv_dead m K c 0 0 (dead_recv c hc 0)) $$ [H4] with H4
  · isplitr; · iexact HK
    iexact H4
  imod (close_recv_dead m K c 0 1 (dead_recv c hc 1)) $$ [H5] with H5
  · isplitr; · iexact HK
    iexact H5
  imod (close_recv m K c 1 0) $$ [H6] with H6
  · isplitr; · iexact HK
    iexact H6
  imod (close_recv m K c 1 1) $$ [H7] with H7
  · isplitr; · iexact HK
    iexact H7
  imodintro
  unfold cellsOut
  isplitl [HB]; · iexact HB
  isplitl [H0 H1 H2 H3]
  · isplitl [H0]; · iexact H0
    isplitl [H1]; · iexact H1
    isplitl [H2] <;> iassumption
  isplitl [H4]; · iexact H4
  isplitl [H5]; · iexact H5
  isplitl [H6] <;> iassumption

/-- The cells of a relay close. -/
theorem close_relay (hc : ¬ own c) :
    iprop(known m K ∗ atPos ER (barCell c) (0 + 1) ∅ 0
      ∗ (atPos ER (sendCell c 0) (0 + 1) ∅ 0 ∗ atPos ER (sendCell c 1) (0 + 1) ∅ 0 ∗ atPos ER (sendCell c 2) 0 ∅ 0 ∗ atPos ER (sendCell c 3) 0 ∅ 0)
      ∗ (atPos ER (recvCell c 0 0) (0 + 1) ∅ 0 ∗ atPos ER (recvCell c 0 1) (0 + 1) ∅ 0) ∗ atPos ER (recvCell c 1 0) (0 + 1) ∅ 0 ∗ atPos ER (recvCell c 1 1) (0 + 1) ∅ 0)
      ⊢ (iprop(|={Set.univ}[frame]=> cellsOut c) : sProp 𝕄) := by
  iintro ⟨#HK, HB, ⟨H0, H1, H2, H3⟩, ⟨H4, H5⟩, H6, H7⟩
  imod (close_bar m K c) $$ [HB] with HB
  · isplitr; · iexact HK
    iexact HB
  imod (close_send m K c 0) $$ [H0] with H0
  · isplitr; · iexact HK
    iexact H0
  imod (close_send m K c 1) $$ [H1] with H1
  · isplitr; · iexact HK
    iexact H1
  imod (close_send_dead m K c 2 (dead_send c hc 2 (by decide))) $$ [H2] with H2
  · isplitr; · iexact HK
    iexact H2
  imod (close_send_dead m K c 3 (dead_send c hc 3 (by decide))) $$ [H3] with H3
  · isplitr; · iexact HK
    iexact H3
  imod (close_recv m K c 0 0) $$ [H4] with H4
  · isplitr; · iexact HK
    iexact H4
  imod (close_recv m K c 0 1) $$ [H5] with H5
  · isplitr; · iexact HK
    iexact H5
  imod (close_recv m K c 1 0) $$ [H6] with H6
  · isplitr; · iexact HK
    iexact H6
  imod (close_recv m K c 1 1) $$ [H7] with H7
  · isplitr; · iexact HK
    iexact H7
  imodintro
  unfold cellsOut
  isplitl [HB]; · iexact HB
  isplitl [H0 H1 H2 H3]
  · isplitl [H0]; · iexact H0
    isplitl [H1]; · iexact H1
    isplitl [H2] <;> iassumption
  isplitl [H4]; · iexact H4
  isplitl [H5]; · iexact H5
  isplitl [H6] <;> iassumption

/-- What an owner's copies give back. -/
theorem pay_own (hc : own c) : iprop(dmaPay m c (sendS 0).val ∗ dmaPay m c (sendS 1).val ∗ dmaPay m c (sendS 2).val ∗ dmaPay m c (sendS 3).val)
    ⊢ (iprop((kPts m fullShare.right.left c 0 ∗ kPts m fullShare.right.left c 1) ∗ (kPts m fullShare.right.right c 0 ∗ kPts m fullShare.right.right c 1)) : sProp 𝕄) := by
  iintro ⟨H0, H1, H2, H3⟩
  isplitl [H0 H1]
  · isplitl [H0]; · iapply (Entails.of_eq (pay_send_own m c hc 0 0)); iexact H0
    iapply (Entails.of_eq (pay_send_own m c hc 0 1)); iexact H1
  isplitl [H2]; · iapply (Entails.of_eq (pay_send_own m c hc 1 0)); iexact H2
  iapply (Entails.of_eq (pay_send_own m c hc 1 1)); iexact H3

/-- What a relay's copies give back. -/
theorem pay_relay (hc : ¬ own c) : iprop(dmaPay m c (sendS 0).val ∗ dmaPay m c (sendS 1).val)
    ⊢ (iprop(gPts fullShare.right c 0 0 (gV m c) ∗ gPts fullShare.right c 0 1 (gV m c)) : sProp 𝕄) := by
  iintro ⟨H0, H1⟩
  isplitl [H0]; · iapply (Entails.of_eq (pay_send_relay m c hc 0)); iexact H0
  iapply (Entails.of_eq (pay_send_relay m c hc 1)); iexact H1

/-- Both halves stored, the result's window holds `outV`. -/
theorem stored_eq (f : (cc0_stg4_0 : Ref sig .tc).ty.Contents (Elt F)) :
    stO c (((oM : Memref sig .tc .vmem S2x128x512 .f32).access rOut1).write (Elt F) (half m c f) (k0_pay1 (V549 m c) (V550 m c)) Finset.univ) ⊢ (stO c (outV m c) : sProp 𝕄) := by
  unfold half outV; rw [out_written]

/-- Part 5: an owner's waits for its first three copies. -/
theorem part5 (hc : own c) Kt :
    iprop((known m K ∗ levAts L lv ∗ (∃ W, owes (c : Thread nD τ) 0 W) ∗ waitS c 0 ∗ waitS c 1 ∗ waitS c 2)
        ∗ (((∃ W', owes (c : Thread nD τ) 0 W') ∗ gotS m c 0 ∗ gotS m c 1 ∗ gotS m c 2) -∗ Kt ⟨⟩))
      ⊢ wp frame (wpE (defs₀ (F := F)) 𝒱₀ (c : Thread nD τ) none) Set.univ
          (k0_part5 xM (Memref.isWhole_whole _) qM (Memref.isWhole_whole _) kM (Memref.isWhole_whole _) wM (Memref.isWhole_whole _)
            oM (Memref.isWhole_whole _) gM (Memref.isWhole_whole _) cc0_scratch1 cc0_scratch2) Kt := by
  simp only [k0_part5_eq_skeleton]; unfold k0_part5_skel
  simp only [Prog.lift, Prog.bind_op, Prog.bind_ret, Prog.pure_eq_ret]
  iintro ⟨⟨#HK, #Hlev, HO, H0, H1, H2⟩, Hk⟩
  iapply (wp_last m K c 0 (live_send c 0 (.inr hc)) rfl rfl) $$ [HO H0]
  · isplitr; · iexact HK
    isplitr; · iexact Hlev
    isplitl [HO] <;> iassumption
  iintro ⟨HO, H0⟩
  iapply (wp_last m K c 1 (live_send c 1 (.inr hc)) rfl rfl) $$ [HO H1]
  · isplitr; · iexact HK
    isplitr; · iexact Hlev
    isplitl [HO] <;> iassumption
  iintro ⟨HO, H1⟩
  iapply (wp_last m K c 2 (live_send c 2 (.inr hc)) rfl rfl) $$ [HO H2]
  · isplitr; · iexact HK
    isplitr; · iexact Hlev
    isplitl [HO] <;> iassumption
  iintro ⟨HO, H2⟩
  rw [wp_ret]; imodintro; iapply Hk
  isplitl [HO]; · iexact HO
  isplitl [H0]; · iexact H0
  isplitl [H1] <;> iassumption

/-- The end of the body on an owner, once its four copies are waited for. -/
theorem end_own (hc : own c) :
    iprop(known m K ∗ atPos ER (barCell c) (0 + 1) ∅ 0 ∗ (gotS m c 0 ∗ gotS m c 1 ∗ gotS m c 2 ∗ gotS m c 3)
      ∗ (gPts fullShare.left c 0 0 (gV m c) ∗ gPts fullShare.left c 0 1 (gV m c)) ∗ (gPts fullShare.right c 0 0 (gV m c) ∗ gPts fullShare.right c 0 1 (gV m c))
      ∗ stK m fullShare.left c ∗ (atPos ER (recvCell c 0 0) 0 ∅ 0 ∗ atPos ER (recvCell c 0 1) 0 ∅ 0) ∗ (got1 m c 0 ∗ got1 m c 1))
      ⊢ (iprop(|={Set.univ}[frame]=> (cellsOut c ∗ scratch c ∗ stK m fullShare c)) : sProp 𝕄) := by
  unfold gotS got1
  iintro ⟨#HK, HB, ⟨⟨H0, P0⟩, ⟨H1, P1⟩, ⟨H2, P2⟩, ⟨H3, P3⟩⟩, Hl, Hr, Hk, Ha, ⟨⟨H6, G0⟩, ⟨H7, G1⟩⟩⟩
  imod (close_own m K c hc) $$ [HB H0 H1 H2 H3 Ha H6 H7] with Hcells
  · isplitr; · iexact HK
    isplitl [HB]; · iexact HB
    isplitl [H0 H1 H2 H3]
    · isplitl [H0]; · iexact H0
      isplitl [H1]; · iexact H1
      isplitl [H2] <;> iassumption
    isplitl [Ha]; · iexact Ha
    isplitl [H6] <;> iassumption
  imodintro
  isplitl [Hcells]; · iexact Hcells
  isplitl [Hl Hr G0 G1]
  · iapply (scratch_back c (gV m c))
    isplitl [Hl]; · iexact Hl
    isplitl [Hr]; · iexact Hr
    isplitl [G0] <;> iassumption
  iapply (stK_shares m c).2
  isplitl [Hk]; · iexact Hk
  iapply (pay_own m c hc)
  isplitl [P0]; · iexact P0
  isplitl [P1]; · iexact P1
  isplitl [P2] <;> iassumption

/-- The end of the body on a relay, once its two copies are waited for. -/
theorem end_relay (hc : ¬ own c) :
    iprop(known m K ∗ atPos ER (barCell c) (0 + 1) ∅ 0 ∗ (gotS m c 0 ∗ gotS m c 1 ∗ atPos ER (sendCell c 2) 0 ∅ 0 ∗ atPos ER (sendCell c 3) 0 ∅ 0)
      ∗ (gPts fullShare.left c 0 0 (gV m c) ∗ gPts fullShare.left c 0 1 (gV m c))
      ∗ (atPos ER (recvCell c 0 0) (0 + 1) ∅ 0 ∗ atPos ER (recvCell c 0 1) (0 + 1) ∅ 0) ∗ (got1 m c 0 ∗ got1 m c 1))
      ⊢ (iprop(|={Set.univ}[frame]=> (cellsOut c ∗ scratch c)) : sProp 𝕄) := by
  unfold gotS got1
  iintro ⟨#HK, HB, ⟨⟨H0, P0⟩, ⟨H1, P1⟩, H2, H3⟩, Hl, Ha, ⟨⟨H6, G0⟩, ⟨H7, G1⟩⟩⟩
  imod (close_relay m K c hc) $$ [HB H0 H1 H2 H3 Ha H6 H7] with Hcells
  · isplitr; · iexact HK
    isplitl [HB]; · iexact HB
    isplitl [H0 H1 H2 H3]
    · isplitl [H0]; · iexact H0
      isplitl [H1]; · iexact H1
      isplitl [H2] <;> iassumption
    isplitl [Ha]; · iexact Ha
    isplitl [H6] <;> iassumption
  imodintro
  isplitl [Hcells]; · iexact Hcells
  iapply (scratch_back c (gV m c))
  isplitl [Hl]; · iexact Hl
  isplitl [P0 P1]
  · iapply (pay_relay m c hc)
    isplitl [P0] <;> iassumption
  isplitl [G0] <;> iassumption

/-- THE BODY on any device. -/
theorem body_run (W : Waits sig Unit) Kt :
    iprop(bodyIn m K c W ∗ (bodyOut m c -∗ Kt ⟨⟩))
      ⊢ wp frame (wpE (defs₀ (F := F)) 𝒱₀ (c : Thread nD τ) none) Set.univ
          (cc0_body xM (Memref.isWhole_whole _) qM (Memref.isWhole_whole _) kM (Memref.isWhole_whole _) wM (Memref.isWhole_whole _)
            oM (Memref.isWhole_whole _) gM (Memref.isWhole_whole _) cc0_scratch1 cc0_scratch2) Kt := by
  have hs := fun f => stored_eq m c f
  unfold rOut1 V550 at hs
  rw [cc0_body_eq_skeleton]; unfold cc0_body_skel bodyIn bodyOut
  iintro ⟨⟨#HK, #Hlev, HO, Ht, Hc, Hcl, Hg, Hx, Hq, Hk, Hw, ⟨%f, Ho⟩⟩, Hkt⟩
  rw [wp_bind]
  iapply (part6 m K c W) $$ [-]
  isplitl [HO Ht Hc Hcl Hg Hx Hq Hk]
  · isplitr; · iexact HK
    isplitr; · iexact Hlev
    isplitl [HO]; · iexact HO
    isplitl [Ht]; · iexact Ht
    isplitl [Hc]; · iexact Hc
    isplitl [Hcl]; · iexact Hcl
    isplitl [Hg]; · iexact Hg
    isplitl [Hx]; · iexact Hx
    isplitl [Hq] <;> iassumption
  iintro ⟨Hm, HB, Has, ⟨Hw0, Hw1⟩, Hx, Hq⟩
  dsimp only
  rw [wp_bind]
  iapply (part7 m K c) $$ [-]
  isplitl [Hm Hq]
  · isplitr; · iexact HK
    isplitr; · iexact Hlev
    isplitl [Hm] <;> iassumption
  iintro ⟨⟨%W', HO⟩, Hl, Hr, Hq⟩
  dsimp only
  rw [wp_bind]
  iapply (part8 m c fullShare.left) $$ [-]
  isplitl [Hl]; · iexact Hl
  iintro Hl
  dsimp only
  rw [wp_bind]
  iapply (part9 m c fullShare.left) $$ [-]
  isplitl [Hl]; · iexact Hl
  iintro Hl
  dsimp only
  rw [wp_bind]
  iapply (part10 m c fullShare.left) $$ [-]
  isplitl [Hl]; · iexact Hl
  iintro Hl
  dsimp only
  rw [wp_bind]
  iapply (part11 m c fullShare.left) $$ [-]
  isplitl [Hl]; · iexact Hl
  iintro Hl
  dsimp only
  rw [wp_bind]
  icases Hl with ⟨Hl0, Hl1⟩
  iapply (part12 m K c fullShare.left W') $$ [-]
  isplitl [HO Hw0 Hl0 Hl1]
  · isplitr; · iexact HK
    isplitr; · iexact Hlev
    isplitl [HO]; · iexact HO
    isplitl [Hw0]; · iexact Hw0
    isplitl [Hl0] <;> iassumption
  unfold got1
  iintro ⟨⟨%W2, HO⟩, ⟨H6, G0⟩, Hl⟩
  dsimp only
  rw [wp_bind]
  iapply (part13 m c fullShare) $$ [-]
  isplitl [G0]; · iexact G0
  iintro G0
  dsimp only
  rw [wp_bind]
  iapply (part14 m c fullShare) $$ [-]
  isplitl [G0]; · iexact G0
  iintro G0
  dsimp only
  rw [wp_bind]
  iapply (part15 m c fullShare) $$ [-]
  isplitl [G0]; · iexact G0
  iintro G0
  dsimp only
  rw [wp_bind]
  iapply (part16 m c fullShare) $$ [-]
  isplitl [G0]; · iexact G0
  iintro G0
  dsimp only
  rw [wp_bind]
  iapply (part17 m K c W2) $$ [-]
  isplitl [HO Hw1 G0]
  · isplitr; · iexact HK
    isplitr; · iexact Hlev
    isplitl [HO]; · iexact HO
    isplitl [Hw1] <;> iassumption
  unfold got1
  iintro ⟨HO, ⟨H7, G1⟩, G0⟩
  dsimp only
  rw [wp_bind]
  iapply (part18 m c) $$ [-]
  isplitl [G1 Hw]
  · isplitl [G1] <;> iassumption
  iintro ⟨G1, Hw⟩
  rw [wp_bind]
  iapply (part19 m c f) $$ [-]
  isplitl [G1 Ho]
  · isplitl [G1] <;> iassumption
  iintro ⟨G1, Ho⟩
  unfold atSends
  icases Has with ⟨S0, S1, S2, S3⟩
  simp only [Prog.lift, Prog.bind_op, Prog.bind_ret, Prog.pure_eq_ret]
  iapply (wp_load_w m c) $$ Hw; iintro Hw
  iapply (wp_load_o c) $$ Ho; iintro Ho
  iapply (wp_store_o c) $$ Ho; iintro Ho
  ihave Ho := (hs f) $$ Ho
  rcases last_cond c with ⟨hc, h5, h6⟩ | ⟨hc, h5, h6⟩
  · simp only [h5, h6, ↓reduceDIte, Prog.bind_op, Prog.bind_ret, Prog.bind_assoc]
    ihave Hr := (rest7_own m c hc) $$ Hr
    unfold ownCreds
    icases Hr with ⟨Hr, ⟨C0, C1, C2, C3⟩, Hk, Ha⟩
    rw [wp_bind]
    iapply (part5 m K c hc) $$ [-]
    unfold waitS
    isplitl [HO C0 S0 C1 S1 C2 S2]
    · isplitr; · iexact HK
      isplitr; · iexact Hlev
      isplitl [HO]; · iexact HO
      isplitl [C0 S0]
      · isplitl [C0] <;> iassumption
      isplitl [C1 S1]
      · isplitl [C1] <;> iassumption
      isplitl [C2] <;> iassumption
    iintro ⟨HO, Q0, Q1, Q2⟩
    iapply (wp_last m K c 3 (live_send c 3 (.inr hc)) rfl rfl) $$ [HO C3 S3]
    · isplitr; · iexact HK
      isplitr; · iexact Hlev
      isplitl [HO]; · iexact HO
      unfold waitS
      isplitl [C3] <;> iassumption
    iintro ⟨HO, Q3⟩
    rw [wp_ret]
    imod (end_own m K c hc) $$ [HB Q0 Q1 Q2 Q3 Hl Hr Hk Ha H6 G0 H7 G1] with ⟨Hcells, Hg, Hk⟩
    · isplitr; · iexact HK
      isplitl [HB]; · iexact HB
      isplitl [Q0 Q1 Q2 Q3]
      · isplitl [Q0]; · iexact Q0
        isplitl [Q1]; · iexact Q1
        isplitl [Q2] <;> iassumption
      isplitl [Hl]; · iexact Hl
      isplitl [Hr]; · iexact Hr
      isplitl [Hk]; · iexact Hk
      isplitl [Ha]; · iexact Ha
      unfold got1
      isplitl [H6 G0]
      · isplitl [H6] <;> iassumption
      isplitl [H7] <;> iassumption
    imodintro; iapply Hkt
    isplitl [HO]; · iexact HO
    isplitl [Hcells]; · iexact Hcells
    isplitl [Hg]; · iexact Hg
    isplitl [Hx]; · iexact Hx
    isplitl [Hq]; · iexact Hq
    isplitl [Hk]; · iexact Hk
    isplitl [Hw] <;> iassumption
  · simp only [h5, h6, ↓reduceDIte, Prog.bind_op, Prog.bind_ret, Prog.bind_assoc]
    ihave Hr := (rest7_relay m c hc) $$ Hr
    icases Hr with ⟨⟨C0, C1⟩, Ha, Hk⟩
    iapply (wp_last m K c 0 (live_send c 0 (.inl (by decide))) rfl rfl) $$ [HO C0 S0]
    · isplitr; · iexact HK
      isplitr; · iexact Hlev
      isplitl [HO]; · iexact HO
      unfold waitS
      isplitl [C0] <;> iassumption
    iintro ⟨HO, Q0⟩
    iapply (wp_last m K c 1 (live_send c 1 (.inl (by decide))) rfl rfl) $$ [HO C1 S1]
    · isplitr; · iexact HK
      isplitr; · iexact Hlev
      isplitl [HO]; · iexact HO
      unfold waitS
      isplitl [C1] <;> iassumption
    iintro ⟨HO, Q1⟩
    rw [wp_ret]
    imod (end_relay m K c hc) $$ [HB Q0 Q1 S2 S3 Hl Ha H6 G0 H7 G1] with ⟨Hcells, Hg⟩
    · isplitr; · iexact HK
      isplitl [HB]; · iexact HB
      isplitl [Q0 Q1 S2 S3]
      · isplitl [Q0]; · iexact Q0
        isplitl [Q1]; · iexact Q1
        isplitl [S2] <;> iassumption
      isplitl [Hl]; · iexact Hl
      isplitl [Ha]; · iexact Ha
      unfold got1
      isplitl [H6 G0]
      · isplitl [H6] <;> iassumption
      isplitl [H7] <;> iassumption
    imodintro; iapply Hkt
    isplitl [HO]; · iexact HO
    isplitl [Hcells]; · iexact Hcells
    isplitl [Hg]; · iexact Hg
    isplitl [Hx]; · iexact Hx
    isplitl [Hq]; · iexact Hq
    isplitl [Hk]; · iexact Hk
    isplitl [Hw] <;> iassumption

end Cert.Swa

end
-- ==== Proof.Deal.lean ====
/-
# `Deal`: what the launch hands each device

The cells and their tokens as finite sets, the tokens carried from a cell's device to the device that pays there, the launch
credit, and the scoped cells opened at the region's entry.
-/
module

public import proofs.«01_k».proof.Proof.Body
public import Idealize.ShloMosaic.Lib.Pipeline.RegionTalk

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens -/

/-- The scoped cells of a device: its four send cells and its four receive cells. -/
def osem : Fin 8 → SemLoc sig := fun k => cellSm k.succ
/-- The nine cells of a device are different. -/
theorem cellSm_inj : Function.Injective cellSm := by decide
/-- No scoped cell is the barrier. -/
theorem osem_ne_bar : ∀ k, osem k ≠ .reg barS := by decide

/-- A device's barrier cell. -/
def barEmb : Dev nD ↪ GSem nD τ sig := ⟨fun c => barCell c, fun _ _ h => congrArg (fun g : GSem nD τ sig => g.1.1) h⟩
/-- A device's scoped cells. -/
def scEmb : Dev nD × Fin 8 ↪ GSem nD τ sig :=
  ⟨fun p => ((p.1 : Thread nD τ), osem p.2), fun _ _ h =>
    Prod.ext (congrArg (fun g : GSem nD τ sig => g.1.1) h) (Fin.succ_injective _ (cellSm_inj (congrArg Prod.snd h)))⟩
/-- Every barrier cell. -/
abbrev barCells : Finset (GSem nD τ sig) := Finset.univ.map barEmb
/-- Every scoped cell. -/
abbrev scCells : Finset (GSem nD τ sig) := Finset.univ.map scEmb

/-- The barrier cells and the scoped cells are apart. -/
theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- Every cell `known` names is one of them. -/
theorem cellP_mem (p : Dev nD × Fin 9) : cellP p ∈ (barCells ∪ scCells : Finset (GSem nD τ sig)) := by
  obtain ⟨c, i⟩ := p
  refine Fin.cases ?_ (fun k => ?_) i
  · exact Finset.mem_union_left _ (Finset.mem_map_of_mem barEmb (Finset.mem_univ c))
  · exact Finset.mem_union_right _ (Finset.mem_map_of_mem scEmb (Finset.mem_univ (c, k)))

/-- The ten tokens of a device's cells: the barrier's two, and one of each scoped cell. -/
def tokOf : Fin 10 → SemLoc sig × Bool :=
  ![(.reg barS, true), (.reg barS, false), (osem 0, false), (osem 1, false), (osem 2, false), (osem 3, false),
    (osem 4, false), (osem 5, false), (osem 6, false), (osem 7, false)]
/-- The ten tokens are different. -/
theorem tokOf_inj : Function.Injective tokOf := by decide
/-- Every token of the first round. -/
def allToks : Finset (GSem nD τ sig × ℕ × Bool) :=
  Finset.univ.map ⟨fun p : Dev nD × Fin 10 => (((p.1 : Thread nD τ), (tokOf p.2).1), 0, (tokOf p.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2.2) h)))⟩

/-- A family of eight, written out. -/
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A family of ten, written out. -/
theorem bigSep10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- Two families side by side are one family of pairs. -/
theorem zip_big {I : Type} [Fintype I] [DecidableEq I] {Φ Ψ : I → sProp 𝕄} :
    iprop(bigSep Finset.univ Φ ∗ bigSep Finset.univ Ψ) ⊢ bigSep Finset.univ fun i => iprop(Φ i ∗ Ψ i) := by
  rw [bigSep_sep']
/-- One family of pairs is two families side by side. -/
theorem unzip_big {I : Type} [Fintype I] [DecidableEq I] {Φ Ψ : I → sProp 𝕄} :
    (bigSep Finset.univ fun i => iprop(Φ i ∗ Ψ i)) ⊢ iprop(bigSep Finset.univ Φ ∗ bigSep Finset.univ Ψ) := by
  rw [bigSep_sep']

/-- The tokens of a device's own cells. -/
def cellToks (c : Dev nD) : sProp 𝕄 :=
  iprop(dutyTok ER (barCell c) 0 true ∗ dutyTok ER (barCell c) 0 false
    ∗ dutyTok ER (sendCell c 0) 0 false ∗ dutyTok ER (sendCell c 1) 0 false ∗ dutyTok ER (sendCell c 2) 0 false ∗ dutyTok ER (sendCell c 3) 0 false
    ∗ dutyTok ER (recvCell c 0 0) 0 false ∗ dutyTok ER (recvCell c 0 1) 0 false ∗ dutyTok ER (recvCell c 1 0) 0 false ∗ dutyTok ER (recvCell c 1 1) 0 false)

/-- All the tokens, device by device. -/
theorem toks_eq : bigSep allToks (fun x => (dutyTok ER x.1 x.2.1 x.2.2 : sProp 𝕄)) = bigSep Finset.univ fun c : Dev nD => cellToks c := by
  unfold allToks; rw [bigSep_map, bigSep_univ_prod]
  exact bigSep_congr fun c _ => by unfold cellToks; rw [bigSep10]; rfl

/-- The tokens go to the devices that pay: the barrier's and the receive cells' to the partners. -/
theorem toks_around : (bigSep Finset.univ fun c : Dev nD => (cellToks c : sProp 𝕄)) ⊢ bigSep Finset.univ fun c : Dev nD => payToks c := by
  unfold cellToks payToks
  simp only [bigSep_sep']
  rw [bigSep_univ_equiv sibE (fun c : Dev nD => (dutyTok ER (barCell c) 0 true : sProp 𝕄)),
    bigSep_univ_equiv mateE (fun c : Dev nD => (dutyTok ER (barCell c) 0 false : sProp 𝕄)),
    bigSep_univ_equiv mateE (fun c : Dev nD => (dutyTok ER (recvCell c 0 0) 0 false : sProp 𝕄)),
    bigSep_univ_equiv mateE (fun c : Dev nD => (dutyTok ER (recvCell c 0 1) 0 false : sProp 𝕄)),
    bigSep_univ_equiv sibE (fun c : Dev nD => (dutyTok ER (recvCell c 1 0) 0 false : sProp 𝕄)),
    bigSep_univ_equiv sibE (fun c : Dev nD => (dutyTok ER (recvCell c 1 1) 0 false : sProp 𝕄))]
  iintro ⟨H0, H1, H2, H3, H4, H5, H6, H7, H8, H9⟩
  isplitl [H0 H1]
  · isplitl [H0]; · iexact H0
    iexact H1
  isplitl [H2 H3 H4 H5]
  · isplitl [H2]; · iexact H2
    isplitl [H3]; · iexact H3
    isplitl [H4] <;> iassumption
  isplitl [H6 H7]
  · isplitl [H6]; · iexact H6
    iexact H7
  isplitl [H8]; · iexact H8
  iexact H9

/-! ## The launch credit -/

/-- A device's dues, told by the device that waits. -/
def wt (c : Dev nD) : CellTallies nD τ sig Unit :=
  (tallyAt (recvCell c 1 0) () N + tallyAt (recvCell c 1 1) () N)
    + (if own c then 0 else tallyAt (recvCell c 0 0) () N + tallyAt (recvCell c 0 1) () N)
    + tallyAt (barCell c) () 2

/-- The dues summed over the devices that pay are the dues summed over the devices that wait. -/
theorem sum_dues : (∑ d, O₀ d) = ∑ d, wt d := by
  have e (f : Dev nD → CellTallies nD τ sig Unit) : (∑ d, f (sib d)) = ∑ d, f d := Equiv.sum_comp sibE f
  have e' (f : Dev nD → CellTallies nD τ sig Unit) : (∑ d, f (mate d)) = ∑ d, f d := Equiv.sum_comp mateE f
  have hm : (∑ d, om d) = ∑ d, (if own d then 0 else tallyAt (recvCell d 0 0) () N + tallyAt (recvCell d 0 1) () N : CellTallies nD τ sig Unit) := by
    rw [← e']
    refine Finset.sum_congr rfl fun d _ => ?_
    unfold om
    by_cases h : own d
    · rw [if_pos h, if_neg (fun h' => (own_mate d).mp h' h)]
    · rw [if_neg h, if_pos ((own_mate d).mpr h), mate_mate]
  unfold O₀ wt
  simp only [Finset.sum_add_distrib]
  rw [hm]
  unfold os
  simp only [Finset.sum_add_distrib]
  rw [e (fun d => tallyAt (recvCell d 1 0) () N), e (fun d => tallyAt (recvCell d 1 1) () N), e (fun d => tallyAt (barCell d) () 1),
    e' (fun d => tallyAt (barCell d) () 1), ← Finset.sum_add_distrib (f := fun d => tallyAt (barCell d) () 1)]
  simp only [tallyAt_add]

/-- What a device waits for lies on its own cells. -/
theorem wt_own (c : Dev nD) (g : GSem nD τ sig) (h : wt c g ≠ 0) : g.1 = (c : Thread nD τ) := by
  by_contra hg
  have hne (sm : SemLoc sig) (n : ℕ) : (tallyAt ((c : Thread nD τ), sm) () n : CellTallies nD τ sig Unit) g = 0 :=
    tallyAt_ne_cell (fun e => hg (congrArg Prod.fst e)) () n
  refine h ?_
  unfold wt
  split <;> simp only [Pi.add_apply, Pi.zero_apply, hne, add_zero]

/-- Credits for two tallies are the credits for each. -/
theorem cred_two (a b : CellTallies nD τ sig Unit) : (cred (a + b) : sProp 𝕄) = iprop(cred a ∗ cred b) :=
  BI.Entails.antisymm (cred_add a b).1 (cred_add a b).2

/-- The launch credit of a device. -/
theorem creds_launch (c : Dev nD) : (Pipeline.launchCred O₀ c : sProp 𝕄) ⊢ creds c := by
  rw [Pipeline.launchCred_of_sum O₀ wt sum_dues wt_own c]
  unfold wt creds
  rw [cred_two, cred_two, cred_two]
  by_cases h : own c
  · rw [if_pos h, if_pos h]
    iintro ⟨⟨H1, -⟩, H3⟩
    isplitl [H3]; · iexact H3
    isplitl [H1]; · iexact H1
    iempintro
  · rw [if_neg h, if_neg h, cred_two]
    iintro ⟨⟨H1, H2⟩, H3⟩
    isplitl [H3]; · iexact H3
    isplitl [H1] <;> iassumption

/-! ## The region's entry -/

/-- What a device keeps of the ghost state up to the region: its barrier position, its rights to open, its tokens. -/
def kept (c : Dev nD) : sProp 𝕄 :=
  iprop(atPos ER (barCell c) 0 ∅ 0 ∗ (bigSep Finset.univ fun k : Fin 8 => openTok ER ((c : Thread nD τ), osem k)) ∗ payToks c)
/-- What a device brings to the region. -/
def Tk (c : Dev nD) : sProp 𝕄 := iprop((∃ K, known m K ∗ kept c) ∗ creds c)
/-- What it holds of the protocol inside. -/
def Xk (c : Dev nD) : sProp 𝕄 := iprop((∃ K, known m K ∗ cellsIn c ∗ payToks c) ∗ creds c ∗ levAts L lv)
/-- What is left of the barrier afterwards. -/
def Yk (c : Dev nD) : sProp 𝕄 := semVal (barCell c) 0

/-- One scoped cell opened. -/
theorem open_one (K : Dev nD × Fin 9 → ℕ) (c : Dev nD) (k : Fin 8) :
    iprop(known m K ∗ (openTok ER ((c : Thread nD τ), osem k) ∗ semVal ((c : Thread nD τ), osem k) 0))
      ⊢ (iprop(|={Set.univ}=> opened ((c : Thread nD τ), osem k)) : sProp 𝕄) := by
  unfold opened
  iintro ⟨#HK, Ho, Hv⟩
  iapply (Rounds.cell_open ER (Rd m) (g := ((c : Thread nD τ), osem k)) (κ := K (c, k.succ)) (Set.mem_univ _))
  isplitr
  · iapply (show known m K ⊢ cellInv ER (Rd m) (K (c, k.succ)) ((c : Thread nD τ), osem k) from
      Laws.sep_elim_left.trans (bigSep_elim (Φ := fun p : Dev nD × Fin 9 => cellInv ER (Rd m) (K p) (cellP p)) (Finset.mem_univ ((c, k.succ) : Dev nD × Fin 9))))
    iexact HK
  isplitl [Ho] <;> iassumption

/-- The region opens: the cells that it scopes become cells of the protocol. -/
theorem hopen (c : Dev nD) : iprop(Tk m c ∗ Pipeline.ownSems0 osem c ∗ levAts L lv) ⊢ (|={Set.univ}=> Xk m c : sProp 𝕄) := by
  unfold Tk Xk kept Pipeline.ownSems0
  iintro ⟨⟨⟨%K, #HK, Hb, Ho, Ht⟩, Hc⟩, Hv, #Hlev⟩
  ihave Hall := (show iprop(known m K ∗ (bigSep Finset.univ fun k : Fin 8 => iprop(openTok ER ((c : Thread nD τ), osem k) ∗ semVal ((c : Thread nD τ), osem k) 0)))
      ⊢ (iprop(|={Set.univ}=> bigSep Finset.univ fun k : Fin 8 => opened ((c : Thread nD τ), osem k)) : sProp 𝕄) from
    (bigSep_with_persistent fun k _ => open_one m K c k).trans (bigSep_fupd _ _)) $$ [Ho Hv]
  · isplitr; · iexact HK
    iapply zip_big; isplitl [Ho] <;> iassumption
  imod Hall with Hall
  imodintro
  isplitl [Hb Hall Ht]
  · iexists K
    isplitr; · iexact HK
    isplitr [Ht]
    · ihave H8 := (Entails.of_eq (bigSep8 (F := F) fun k => opened ((c : Thread nD τ), osem k))) $$ Hall
      icases H8 with ⟨H0, H1, H2, H3, H4, H5, H6, H7⟩
      unfold cellsIn
      isplitl [Hb]; · iexact Hb
      isplitl [H0 H1 H2 H3]
      · isplitl [H0]; · iexact H0
        isplitl [H1]; · iexact H1
        isplitl [H2]; · iexact H2
        iexact H3
      isplitl [H4]; · iexact H4
      isplitl [H5]; · iexact H5
      isplitl [H6]; · iexact H6
      iexact H7
    iexact Ht
  isplitl [Hc]; · iexact Hc
  iexact Hlev

/-- The counters back at zero, as the region wants them. -/
theorem cells_back (c : Dev nD) : (cellsOut c : sProp 𝕄) ⊢ iprop(Pipeline.ownSems0 osem c ∗ Yk c) := by
  unfold cellsOut Yk Pipeline.ownSems0
  rw [bigSep8]
  iintro ⟨Hb, ⟨H0, H1, H2, H3⟩, H4, H5, H6, H7⟩
  isplitr [Hb]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact Hb

end Cert.Swa

end
-- ==== Proof.Region.lean ====
/-
# `Region`: the kernel's call as a region of the program

What every window holds before and after the body, the body's obligation, and the region's record: entered with the arrays
as the host operations leave them, left with the result's array written.
-/
module

public import proofs.«01_k».proof.Proof.Deal

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The windows' data -/

/-- The invariant before the body, and after it. -/
def Φin (c : Dev nD) : sProp 𝕄 := iprop(Xk m c ∗ scratch c ∗ ∃ r, prngReg c r)
/-- The invariant after the body. -/
def Φout (c : Dev nD) : sProp 𝕄 := iprop(cellsOut c ∗ scratch c ∗ ∃ r, prngReg c r)

/-- The arrays as the region finds them, each input's block left in place, the result's block written. -/
def dat (c : Dev nD) : Dat τ (Elt F) Unit ℕ UU ℕ cfg0 c where
  A w := V m c (Pipeline.arrRef spec0 w)
  after w _ := match w with
    | ⟨0, _⟩ => iblk m c 0 t0_0
    | ⟨1, _⟩ => iblk m c 1 t0_0
    | ⟨2, _⟩ => iblk m c 2 t0_0
    | ⟨3, _⟩ => iblk m c 3 t0_0
    | ⟨4, _⟩ => outV m c
  Φ t := match t with
    | ⟨0, _⟩ => Φin m c
    | ⟨_ + 1, _⟩ => Φout c
  q _ := fullShare
  owed t := match t with
    | ⟨0, _⟩ => O₀ c
    | ⟨_ + 1, _⟩ => 0

/-- The pipeline's tables are admissible. -/
abbrev adm : (p : Fin 1) → (pcfgs (F := F) p).Adm := fun p => (cfgs p).toPCfg_adm
/-- The windows' data, for the one pipeline. -/
def pdats (p : Fin 1) (c : Dev nD) : Dat τ (Elt F) Unit ℕ UU ℕ (Pipeline.pin (pcfgs (F := F)) adm p) c :=
  match p with | 0 => dat m c

/-- Every window is held whole. -/
theorem share_eq (c : Dev nD) (w : Fin cfg0.W) : (dat m c).share w = fullShare := by unfold Dat.share; split <;> rfl

/-- Holding a window's whole array is holding the buffer. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What a device holds when the region begins. -/
def pre (c : Dev nD) : sProp 𝕄 :=
  iprop(Φin m c ∗ (dat m c).owesAt () (t0_0 : Fin cfg0.N).castSucc
    ∗ (∃ d, stg c cc0_stg0_0 ((dat m c).before (0 : Fin 5) t0_0 d))
    ∗ (∃ d, stg c cc0_stg1_0 ((dat m c).before (1 : Fin 5) t0_0 d))
    ∗ (∃ d, stg c cc0_stg2_0 ((dat m c).before (2 : Fin 5) t0_0 d))
    ∗ (∃ d, stg c cc0_stg3_0 ((dat m c).before (3 : Fin 5) t0_0 d))
    ∗ (∃ d, stg c cc0_stg4_0 ((dat m c).before (4 : Fin 5) t0_0 d)))
/-- What it holds when the region has ended. -/
def post (c : Dev nD) : sProp 𝕄 :=
  iprop(Φout c ∗ (dat m c).owesAt () (t0_0 : Fin cfg0.N).succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (outV m c))

/-- From the region's invariant and windows to the body's, through the body, and back. -/
theorem body_pre (c : Dev nD) : pre m c ⊢ wp frame (wpE (defs₀ (F := F)) 𝒱₀ c none) Set.univ
    (cc0_body xM (Memref.isWhole_whole _) qM (Memref.isWhole_whole _) kM (Memref.isWhole_whole _) wM (Memref.isWhole_whole _)
      oM (Memref.isWhole_whole _) gM (Memref.isWhole_whole _) cc0_scratch1 cc0_scratch2) (fun _ => post m c) := by
  unfold pre Φin Xk
  iintro ⟨⟨⟨⟨%K, #HK, Hcl, Ht⟩, Hc, #Hlev⟩, Hs, Hp⟩, HO, ⟨%d0, %g0, %h0, Hx⟩, ⟨%d1, %g1, %h1, Hq⟩, ⟨%d2, %g2, %h2, Hk⟩, ⟨%d3, %g3, %h3, Hw⟩, ⟨%d4, %g4, -, Ho⟩⟩
  have e0 : g0 = iblk m c 0 t0_0 := by rw [h0]; unfold Dat.before; rw [if_pos (fetch0_0 t0_0)]; rfl
  have e1 : g1 = iblk m c 1 t0_0 := by rw [h1]; unfold Dat.before; rw [if_pos (fetch0_1 t0_0)]; rfl
  have e2 : g2 = iblk m c 2 t0_0 := by rw [h2]; unfold Dat.before; rw [if_pos (fetch0_2 t0_0)]; rfl
  have e3 : g3 = iblk m c 3 t0_0 := by rw [h3]; unfold Dat.before; rw [if_pos (fetch0_3 t0_0)]; rfl
  subst e0 e1 e2 e3
  unfold Dat.owesAt Pipeline.owesWithin
  icases HO with ⟨%W, %hW, HO⟩
  rw [show (dat m c).owed (t0_0 : Fin cfg0.N).castSucc = O₀ c from rfl]
  iapply (body_run m K c W fun _ => post m c)
  isplitr [Hp]
  · unfold bodyIn
    isplitr; · iexact HK
    isplitr; · iexact Hlev
    isplitl [HO]; · iexact HO
    isplitl [Ht]; · iexact Ht
    isplitl [Hc]; · iexact Hc
    isplitl [Hcl]; · iexact Hcl
    isplitl [Hs]; · iexact Hs
    isplitl [Hx]; · unfold stX; iexact Hx
    isplitl [Hq]; · unfold stQ; iexact Hq
    isplitl [Hk]; · unfold stK kvb; iexact Hk
    isplitl [Hw]; · unfold stW; iexact Hw
    iexists g4; unfold stO; iexact Ho
  unfold bodyOut post Φout stX stQ stK kvb stW stO Dat.owesAt Pipeline.owesWithin Dat.bound
  iintro ⟨⟨%W', HO⟩, Hcl, Hs, Hx, Hq, Hk, Hw, Ho⟩
  isplitl [Hcl Hs Hp]
  · isplitl [Hcl]; · iexact Hcl
    isplitl [Hs]; · iexact Hs
    iexact Hp
  isplitl [HO]
  · iexists W'
    isplitr; · ipureintro; exact fun _ _ => Or.inl trivial
    rw [show (dat m c).owed (t0_0 : Fin cfg0.N).succ = 0 from rfl]; iexact HO
  isplitl [Hx]; · iexists _; isplitr; · ipureintro; rfl
                  iexact Hx
  isplitl [Hq]; · iexists _; isplitr; · ipureintro; rfl
                  iexact Hq
  isplitl [Hk]; · iexists _; isplitr; · ipureintro; rfl
                  iexact Hk
  isplitl [Hw]; · iexists _; isplitr; · ipureintro; rfl
                  iexact Hw
  iexists _; isplitr; · ipureintro; rfl
  iexact Ho

/-- The body does what the region asks of it. -/
theorem body_obligation (c : Dev nD) : BodyObligation (dat m c) (defs₀ (F := F)) 𝒱₀ () Set.univ := fun t => by
  rw [fin_N0 t]
  rw [bigSep_W0, bigSep_W0]
  simp only [owns_whole_eq]
  exact body_pre m c

/-! ## The region -/

/-- The program's buffers outside the kernel. -/
abbrev bufs : Finset (DevRef τ sig) := Pipeline.ucRefs τ sig
/-- Their contents when the region is entered. -/
def W₁ (c : Dev nD) : Valuation τ sig (Elt F) := StableHlo.after hostOps0 (fun b => m (c, b))
/-- Their contents when it is left: the result's array written. -/
def W₂ (c : Dev nD) : Valuation τ sig (Elt F) := Function.update (W₁ m c) (Proc.devRef .tc main_v10) ((dat m c).arrAt 4 cfg0.N)

/-- The facts of the launch of the one pipeline. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- No staging cell is a cell of the protocol. -/
theorem stage_low : ∀ (w : Fin 5) (s : Fin (spec0 w).nbuf), ((spec0 w).sem s).val ≠ 9 ∧ ((spec0 w).sem s).val ≠ 10 ∧ ((spec0 w).sem s).val ≠ 11 ∧ ((spec0 w).sem s).val ≠ 12 := by
  decide

/-- What is owed lies above the staging cells. -/
theorem cut (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  obtain ⟨t, ht⟩ := t
  cases t with
  | zero => exact above_O₀ c g i h
  | succ t => exact absurd h (Nat.lt_irrefl 0)

/-- The region's holdings are enough to begin. -/
theorem hin (c : Dev nD) : iprop(Pipeline.scopedRest (Pipeline.pin (pcfgs (F := F)) adm 0).spec c ∗ (∃ r, prngReg c r) ∗ StableHlo.held (c.tc : Thread nD τ) ∅ (W₁ m c) ∗ Xk m c)
    ⊢ (pdats m 0 c).Φ 0 := by
  rw [show (pdats m 0 c).Φ 0 = Φin m c from rfl, show (Pipeline.scopedRest (Pipeline.pin (pcfgs (F := F)) adm 0).spec c : sProp 𝕄) = scratch c from scopedRest0_eq c]
  unfold Φin
  iintro ⟨Hs, Hp, -, HX⟩
  isplitl [HX]; · iexact HX
  isplitl [Hs] <;> iassumption

/-- What the body leaves is enough to end. -/
theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W₂ m c) ∗ Pipeline.ownSems0 osem c ∗ Yk c) := by
  rw [show (pdats m 0 c).Φ (Fin.last (Pipeline.pin (pcfgs (F := F)) adm 0).N) = Φout c from rfl,
    show (Pipeline.scopedRest (Pipeline.pin (pcfgs (F := F)) adm 0).spec c : sProp 𝕄) = scratch c from scopedRest0_eq c]
  unfold Φout
  iintro ⟨Hc, Hs, Hp⟩
  isplitl [Hs]; · iexact Hs
  isplitl [Hp]; · iexact Hp
  isplitr; · unfold StableHlo.held; rw [BI.bigSep_empty]; iempintro
  iapply (cells_back c); iexact Hc

/-- No input is the result's array. -/
theorem arr_ne : ∀ w : Fin 5, (spec0 w).isOut = false → (Proc.devRef .tc (Pipeline.arrRef spec0 w) : DevRef τ sig) ≠ Proc.devRef .tc main_v10 := by decide

/-- The region leaves an input as it was. -/
theorem arr_in (c : Dev nD) (w : Fin 5) (h : (spec0 w).isOut = false) : (dat m c).arrAt w cfg0.N = W₂ m c (Proc.devRef .tc (Pipeline.arrRef spec0 w)) :=
  (Dat.arrAt_in (dat m c) w h _).trans (by
    unfold W₂
    rw [Function.update_of_ne (arr_ne w h)]
    rfl)
/-- Every array after the region. -/
theorem arr_after (c : Dev nD) (w : Fin 5) : (dat m c).arrAt w cfg0.N = W₂ m c (Proc.devRef .tc (Pipeline.arrRef spec0 w)) := by
  by_cases h : (spec0 w).isOut = false
  · exact arr_in m c w h
  · obtain rfl : w = 4 := by revert w; decide
    exact (Function.update_self (Proc.devRef .tc main_v10) _ (W₁ m c)).symm

/-- The buffers beside the windows' arrays. -/
abbrev rest : Finset (DevRef τ sig) := bufs \ Pipeline.arrRefs (τ := τ) spec0
/-- The arrays of the region are buffers that the device holds. -/
theorem arrRefs_sub : Pipeline.arrRefs (τ := τ) spec0 ⊆ bufs := by decide
/-- The other buffers are not the result's. -/
theorem rest_ne : ∀ b ∈ rest, b ≠ Proc.devRef .tc main_v10 := by decide

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body_obligation m c).loose)
    (fun _ => 0) O₀ (fun c => (zero_add _).symm) (fun c => rfl) (fun _ => rfl) (fun c w => share_eq m c w)
    (W₁ m) (W₂ m) (fun c b hb => Function.update_of_ne (rest_ne b (Finset.sdiff_subset hb)) _ _)
    (Tk m) Yk (Xk m) Yk (hopen m) (hin m) (hout m)
    (fun c => by iintro H; imodintro; iexact H)
    (fun _ => 0)
    ⟨fun c w s => by rw [L_tc]; exact Finset.mem_singleton_self _,
     fun c w s => by
      obtain ⟨h1, h2, h3, h4⟩ := stage_low w s
      show lv ((c : Thread nD τ), .dma ((spec0 w).sem s)) () ≤ 0
      unfold lv; dsimp only
      rw [if_neg (by rintro (h | h) <;> contradiction), if_neg (by rintro (h | h) <;> contradiction)],
     fun c t g i h => cut m c t g i h⟩
    (fun _ => iprop(emp))
    (fun c w => rfl) (fun c w => arr_after m c w)

end Cert.Swa

end
-- ==== Proof.Launch.lean ====
/-
# `Launch`: the run of the whole program

From any memory with every counter at zero the program ends on every device with its arguments unchanged, its result as
`outV` says, and every counter back at zero.
-/
module

public import proofs.«01_k».proof.Proof.Region

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Dealing at the launch -/

/-- A device's one semaphore outside of the region is its barrier. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The launch element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's share of it, kept whole by device 0 until the deal. -/
def G (c : Dev nD) : sProp 𝕄 := if c = 0 then BI.own (ER (launchOf barCells scCells allToks)) else iprop(emp)
/-- All devices' shares together are the whole. -/
theorem G_all : bigSep Finset.univ (G (F := F)) = BI.own (ER (launchOf barCells scCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What rides beside the buffers up to the region. -/
def R (c : Dev nD) : sProp 𝕄 := iprop(Tk m c ∗ (∃ r, prngReg c r) ∗ ∃ W, owes (c : Thread nD τ) (O₀ c) W)
/-- A device's memory as launched. -/
def W₀ (c : Dev nD) : Valuation τ sig (Elt F) := fun b => m (c, b)
/-- What a device holds at the start. -/
abbrev T₀ (c : Dev nD) : sProp 𝕄 := iprop(StableHlo.held (c : Thread nD τ) bufs (W₀ m c) ∗ R m c)
/-- What a device holds at the end. -/
abbrev Tₙ (c : Dev nD) : sProp 𝕄 := iprop(StableHlo.held (c : Thread nD τ) bufs (W₂ m c) ∗ semVal (barCell c) 0)

/-- What of a device's launch holdings is not ghost state. -/
def bundle (c : Dev nD) : sProp 𝕄 :=
  iprop(StableHlo.held (c : Thread nD τ) bufs (W₀ m c) ∗ creds c ∗ owes (c : Thread nD τ) (O₀ c) ∅ ∗ ∃ r, prngReg c r)

/-- The launch gives what the start asks for. -/
theorem T₀_intro (K : Dev nD × Fin 9 → ℕ) (c : Dev nD) : iprop(known m K ∗ (kept c ∗ bundle m c)) ⊢ T₀ m c := by
  unfold bundle T₀ R Tk
  iintro ⟨#HK, Hk, Hh, Hc, HO, Hp⟩
  isplitl [Hh]; · iexact Hh
  isplitl [Hk Hc]
  · isplitl [Hk]
    · iexists K; isplitr; · iexact HK
      iexact Hk
    iexact Hc
  isplitl [Hp]; · iexact Hp
  iexists ∅; iexact HO

/-- The launch makes the protocol's cells known. -/
theorem known_intro (κ : GSem nD τ sig → ℕ) :
    iprop((bigSep (barCells ∪ scCells) fun g => cellInv ER (Rd m) (κ g) g) ∗ bigSep barCells fun g => reached ER g 0)
      ⊢ (known m (fun p => κ (cellP p)) : sProp 𝕄) := by
  unfold known
  iintro ⟨#HI, #HR⟩
  isplitr
  · iapply (bigSep_intro_persistent (S := Finset.univ) (R := bigSep (barCells ∪ scCells) fun g => (cellInv ER (Rd m) (κ g) g : sProp 𝕄))
      (Φ := fun p : Dev nD × Fin 9 => (cellInv ER (Rd m) (κ (cellP p)) (cellP p) : sProp 𝕄)) fun p _ => bigSep_elim (cellP_mem p))
    iexact HI
  iapply (Entails.of_eq (bigSep_map (s := Finset.univ) barEmb (Φ := fun g : GSem nD τ sig => (reached ER g 0 : sProp 𝕄))))
  iexact HR

/-- The deal: the barrier counters are used up, everything else handed out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (W₀ m c) from Pipeline.unscopedBufs_held c (W₀ m c),
      unscopedSems_eq]
    unfold bundle
    iintro ⟨Hh, Hus, HO, Hcr, Hp, HG⟩
    isplitl [Hh Hcr HO Hp]
    · isplitl [Hh]; · iexact Hh
      isplitl [Hcr]; · iapply (creds_launch c); iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => bigSep Finset.univ fun k : Fin 8 => openTok ER ((c : Thread nD τ), osem k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := unzip_big $$ H'; icases H2 with ⟨HB, H3⟩
  ihave H4 := unzip_big $$ H3; icases H4 with ⟨Hv, HG⟩
  ihave Hu := (Entails.of_eq (G_all (F := F))) $$ HG
  imod (Rounds.fund_launch ER (Rd m) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := known m fun p => κ (cellP p)) (Φ := fun c => iprop(kept c ∗ bundle m c)) fun c _ => T₀_intro m _ c)
  isplitr
  · iapply (known_intro m κ)
    isplitr; · iexact Hinv
    iexact Hr
  iapply zip_big
  isplitr [HB]
  · unfold kept
    iapply zip_big; isplitl [Hat]; · iapply hat $$ Hat
    iapply zip_big; isplitl [Hopen]; · iapply ho $$ Hopen
    iapply (toks_around (F := F))
    iapply (Entails.of_eq (toks_eq (F := F))) $$ Htok
  · iexact HB

/-! ## The segments -/

/-- The host operations before the region. -/
def host : Pipeline.HostSeg (Name := ℕ) (U := UU) (pcfgs (F := F)) defs₀ 𝒱₀ L lv :=
  Pipeline.HostSeg.ofOps _ _ _ _ _ bufs hostOps0
    (fun op h => Pipeline.sub_ucRefs op (List.forall_iff_forall_mem.mp hostOps0_sub op h))
    (fun op h => List.forall_iff_forall_mem.mp hostOps0_fresh op h) (W₀ m) (R m)

/-- What the host's operations leave is what the region asks for. -/
theorem reg_pre (c : Dev nD) : iprop(StableHlo.held (c : Thread nD τ) bufs (W₁ m c) ∗ R m c) ⊢ (reg m).pre c := by
  show _ ⊢ iprop(StableHlo.held (c.tc : Thread nD τ) (Pipeline.arrRefs (τ := τ) spec0) (W₁ m c) ∗ (∃ r, prngReg c r)
    ∗ (StableHlo.held (c.tc : Thread nD τ) rest (W₁ m c) ∗ emp) ∗ Tk m c ∗ ∃ Wd, owes (c : Thread nD τ) (0 + O₀ c) Wd)
  rw [StableHlo.held_sub_split (c.tc : Thread nD τ) arrRefs_sub (W₁ m c), zero_add]
  unfold R
  iintro ⟨⟨Ha, Hh⟩, HT, Hp, HO⟩
  isplitl [Ha]; · iexact Ha
  isplitl [Hp]; · iexact Hp
  isplitl [Hh]
  · isplitl [Hh]; · iexact Hh
    iempintro
  isplitl [HT] <;> iassumption

/-- What the region leaves is what the end asks for. -/
theorem reg_post (c : Dev nD) : (reg m).post c ⊢ iprop(Tₙ m c ∗ ∃ W, owes (c : Thread nD τ) (0 : CellTallies nD τ sig Unit) W) := by
  show iprop(StableHlo.held (c.tc : Thread nD τ) (Pipeline.arrRefs (τ := τ) spec0) (W₂ m c) ∗ (∃ r, prngReg c r)
    ∗ (StableHlo.held (c.tc : Thread nD τ) rest (W₂ m c) ∗ emp) ∗ Yk c ∗ ∃ Wd, owes (c : Thread nD τ) (0 : CellTallies nD τ sig Unit) Wd) ⊢ _
  dsimp only [Tₙ]
  rw [StableHlo.held_sub_split (c.tc : Thread nD τ) arrRefs_sub (W₂ m c)]
  unfold Yk
  iintro ⟨Ha, -, ⟨Hh, -⟩, Hb, HO⟩
  isplitr [HO]
  · isplitr [Hb]
    · isplitl [Ha] <;> iassumption
    iexact Hb
  iexact HO

/-- The program: the host's operations, then the region. -/
def segs : List (Pipeline.Seg (pcfgs (F := F)) adm (pdats m) () defs₀ 𝒱₀ L lv) := [.host (host m), .region (reg m)]

/-- The printed program is these two. -/
theorem main_eq (c : Dev nD) : main (F := F) c = Pipeline.Seg.run (segs m) :=
  main_segs adm (pdats m) () 𝒱₀ L lv (host m) (reg m) rfl c

/-- Only the barrier's semaphore lies outside of the region. -/
theorem unscoped_eq : ∀ sm : SemLoc sig, sm.isScoped .tc = false → sm = .reg barS := by decide

/-- Of the held buffers, the arguments and the result. -/
theorem held_results (c : Dev nD) (W : Valuation τ sig (Elt F)) : (StableHlo.held (c : Thread nD τ) bufs W : sProp 𝕄)
    ⊢ iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_arg3) ↦{fullShare} W (Proc.devRef .tc main_arg3))
      ∗ (((c : Thread nD τ).loc main_arg4) ↦{fullShare} W (Proc.devRef .tc main_arg4)) ∗ (((c : Thread nD τ).loc main_v10) ↦{fullShare} W (Proc.devRef .tc main_v10))) := by
  rw [StableHlo.held_sub_split (c : Thread nD τ) (T := ([main_arg0, main_arg1, main_arg2, main_arg3, main_arg4, main_v10].map (Proc.devRef .tc)).toFinset) (by decide) W]
  refine Laws.sep_elim_left.trans (Entails.of_eq ?_)
  unfold StableHlo.held
  exact bigSep_eq_bigSepL_of_eq ([main_arg0, main_arg1, main_arg2, main_arg3, main_arg4, main_v10].map (Proc.devRef .tc)) rfl (by decide) _

/-- The run leaves every buffer but the result's as the host's operations left it. -/
theorem W₂_arg (c : Dev nD) (b : Ref sig .tc) (h : (Proc.devRef .tc b : DevRef τ sig) ≠ Proc.devRef .tc main_v10) : W₂ m c (Proc.devRef .tc b) = V m c b :=
  Function.update_of_ne h _ _
/-- And the result's buffer as the region wrote it. -/
theorem W₂_out (c : Dev nD) : W₂ m c (Proc.devRef .tc main_v10) = (dat m c).arrAt 4 cfg0.N := Function.update_self _ _ _

/-- What a final state holds on a device. -/
def ends (s : MemSt nD τ sig (Elt F)) (c : Dev nD) : Prop :=
  s.mem ((c : Thread nD τ).loc main_arg0) = W₂ m c (Proc.devRef .tc main_arg0) ∧ s.mem ((c : Thread nD τ).loc main_arg1) = W₂ m c (Proc.devRef .tc main_arg1)
    ∧ s.mem ((c : Thread nD τ).loc main_arg2) = W₂ m c (Proc.devRef .tc main_arg2) ∧ s.mem ((c : Thread nD τ).loc main_arg3) = W₂ m c (Proc.devRef .tc main_arg3)
    ∧ s.mem ((c : Thread nD τ).loc main_arg4) = W₂ m c (Proc.devRef .tc main_arg4) ∧ s.mem ((c : Thread nD τ).loc main_v10) = W₂ m c (Proc.devRef .tc main_v10)

set_option backward.isDefEq.respectTransparency.types false in
/-- The run, with every buffer named by its contents after the region. -/
theorem run_raw : θ_run defs (onTc (τ := τ) (main (F := F))) (s₀ m ρ) (fun r => (∀ c : Dev nD, ends m r.2 c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg_pre m c, fun c => reg_post m c⟩)
    (hinit := init m ρ)
    (QY := fun c s => ends m s c ∧ s.sem (barCell c) = 0)
    (hfin := fun c s' => by
      dsimp only [Tₙ]
      iintro ⟨⟨Hh, Hb⟩, HSI⟩
      ihave Hh := (held_results c (W₂ m c)) $$ Hh
      icases Hh with ⟨H0, H1, H2, H3, H4, Ho⟩
      icombine HSI H0 gives %h0
      icombine HSI H1 gives %h1
      icombine HSI H2 gives %h2
      icombine HSI H3 gives %h3
      icombine HSI H4 gives %h4
      icombine HSI Ho gives %ho
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ ho⟩, by simpa using hb⟩
      iexact HSI)
    (hQ := fun s h hs => ⟨fun c => (h c).1, sem_eq_zero hs fun c sm hsm => by
        obtain rfl := unscoped_eq sm hsm
        exact (h c).2⟩)

/-- The result's array after the region is what the body left. -/
theorem out_eq (c : Dev nD) : (dat m c).arrAt 4 cfg0.N = outV m c := by
  rw [show cfg0.N = (t0_0 : Fin cfg0.N).val + 1 from N_0, Dat.arrAt_succ, if_pos (flush0_4 t0_0)]
  exact Memref.write_access_unit_zero_univ (Elt F) main_v10 (funext fun a => Nat.zero_mul _) _ _ _

/-- The run: the arguments unchanged, the result the body's, every counter zero. -/
theorem run_main : θ_run defs (onTc (τ := τ) (main (F := F))) (s₀ m ρ) (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v10) = outV m c) ∧ r.2.sem = fun _ => 0) :=
  (θ_run defs _ _).mono (fun r h => ⟨fun c => by
    obtain ⟨h0, h1, h2, h3, h4, ho⟩ := h.1 c
    rw [W₂_arg m c _ (by decide), V_main_arg0] at h0
    rw [W₂_arg m c _ (by decide), V_main_arg1] at h1
    rw [W₂_arg m c _ (by decide), V_main_arg2] at h2
    rw [W₂_arg m c _ (by decide), V_main_arg3] at h3
    rw [W₂_arg m c _ (by decide), V_main_arg4] at h4
    rw [W₂_out, out_eq] at ho
    exact ⟨⟨h0, h1, h2, h3, h4⟩, ho⟩, h.2⟩) (run_raw m ρ)

end Cert.Swa

end
-- ==== Proof.Frames.lean ====
/- The frames of the three programs, and what the named constant stands for. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

@[expose] public section

noncomputable section

namespace Cert.Frames

open Idealize.ShloMosaic Idealize.SL.Sem

/-- At the bit patterns a named constant is the literal that the name stands for. -/
local instance literal : Named Bits where
  named _ _ {φ} bits := Scalar.ofBits φ bits

/-- With names read as their literals, the two texts have one body. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- And so one table of bodies. -/
theorem defs_eq : Cert.Kernel.defs (F := Bits) = Cert.KernelIdeal.defs (F := Bits) :=
  congrArg (Pipeline.defs (Cert.KernelIdeal.pcfgs (F := Bits))) defs₀_eq

/-- And one host program. -/
theorem main_eq : Cert.Kernel.main (F := Bits) = Cert.KernelIdeal.main (F := Bits) := by rfl

/-- The ideal kernel terminates, keeps its arguments and ends with every counter at zero. -/
theorem frame_ideal :
    Cert.quiescent_KernelIdeal (hKernelIdeal := Cert.KernelIdeal.Gen.facts) := fun m ρ _ =>
  (θ_run (Cert.KernelIdeal.defs (F := Ideal)) _ _).mono
    (fun _ h => ⟨fun c => (h.1 c).1, h.2⟩) (Cert.Swa.run_main (F := Ideal) m ρ)

/-- So does the kernel at the bit patterns. -/
theorem frame_kernel :
    Cert.quiescent_Kernel (hKernel := Cert.Kernel.Gen.facts) := fun m ρ _ => by
  rw [defs_eq, main_eq]
  exact (θ_run (Cert.KernelIdeal.defs (F := Bits)) _ _).mono
    (fun _ h => ⟨fun c => (h.1 c).1, h.2⟩) (Cert.Swa.run_main (F := Bits) m ρ)

/-- The reference has no semaphore, so that its run is its frame. -/
theorem frame_reference :
    Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- The mask's literal is named −∞. -/
theorem mask_named : Cert.preserves_Kernel_KernelIdeal :=
  IdealRules.named_const.statement Cert.KernelIdeal.κ "mask" .f32 0xCE6E6B28#32 ⊥ rfl

end Cert.Frames

end
-- ==== Proof.Head.lean ====
/-
# `Head`: the one computation that every head of every batch goes through
-/
module

public import proofs.«01_k».proof.Proof.Chain

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! The arithmetic that the kernel repeats for each batch and head, written once. -/

/-- The scores of one head against one block of 128 keys, the first key of the block being key `off`: scaled products, and the
    mask where the key lies more than 128 away from the query. -/
def scoreOf (off : BitVec 32) (q : FVec F S128x64 .bf16) (k : Vec F S1x64x128 .bf16) : FVec F S128x128 .f32 :=
  select (cmpi .sle (absi (subi (iota .tc S128x128 32 [0] iota_S128x128_d0_w32)
      (addi (iota .tc S128x128 32 [1] iota_S128x128_d1_w32) (broadcast S128x128 off)))) (broadcast S128x128 128#32))
    (mulf (matmul dot_S128x64_S64x128_S128x128_1_0_0_1_n_n none q (shapeCast S64x128 k shapeCasts_S1x64x128_S64x128)
      (constant S128x128 .f32 0x00000000#32)) (broadcast S128x128 (Scalar.ofBits .f32 0x3E000000#32)))
    (broadcast S128x128 (Named.named κ "mask" 0xCE6E6B28#32))

/-- The largest score of each row. -/
def topOf (s : FVec F S128x128 .f32) : FVec F S128x1 .f32 :=
  shapeCast S128x1 (multiReduction .maximumf [1] S128 s 0xFF800000#32 reduces_S128x128_S128 (.inl rfl) rfl) shapeCasts_S128_S128x1

/-- The sum of each row. -/
def sumOf (p : FVec F S128x128 .f32) : FVec F S128x1 .f32 :=
  shapeCast S128x1 (multiReduction .add [1] S128 p 0x00000000#32 reduces_S128x128_S128 (.inl rfl) rfl) shapeCasts_S128_S128x1

/-- The weights of one block: the exponential of each score less a bound of its row. -/
def expOf (s : FVec F S128x128 .f32) (t : FVec F S128x1 .f32) : FVec F S128x128 .f32 :=
  exp (subf s (broadcastTo S128x128 t broadcasts_S128x1_S128x128))

/-- The values of one block summed under its weights. -/
def mixOf (p : FVec F S128x128 .f32) (v : Vec F S1x64x128 .bf16) : FVec F S128x64 .f32 :=
  matmul dot_S128x128_S64x128_S128x64_1_1_0_0_n_n none (truncf .bf16 p bitsLt_bf16_f32)
    (shapeCast S64x128 v shapeCasts_S1x64x128_S64x128) (constant S128x64 .f32 0x00000000#32)

/-- One head from the scores of its two blocks: the first block's sums are scaled to the bound of both, the second's are added,
    and the weighted values are divided by the weights. -/
def mergeOf (s s' : FVec F S128x128 .f32) (v v' : Vec F S1x64x128 .bf16) : FVec F S128x64 .f32 :=
  divf
    (addf (mulf (mixOf (expOf s (topOf s)) v)
        (broadcastTo S128x64 (exp (subf (topOf s) (maximumf (topOf s) (topOf s')))) broadcasts_S128x1_S128x64))
      (mixOf (expOf s' (maximumf (topOf s) (topOf s'))) v'))
    (broadcastTo S128x64
      (addf (mulf (sumOf (expOf s (topOf s))) (exp (subf (topOf s) (maximumf (topOf s) (topOf s')))))
        (sumOf (expOf s' (maximumf (topOf s) (topOf s'))))) broadcasts_S128x1_S128x64)

/-- One head: its queries, and the keys and values of its two blocks. -/
def headOf (off off' : BitVec 32) (q : FVec F S128x64 .bf16) (k v k' v' : Vec F S1x64x128 .bf16) : FVec F S128x64 .f32 :=
  mergeOf (scoreOf off q k) (scoreOf off' q k') v v'

/-- The four heads of a batch side by side. -/
def rowOf (h₀ h₁ h₂ h₃ : FVec F S128x64 .f32) : FVec F S128x256 .bf16 :=
  truncf .bf16 (concatenate S128x256 1 [⟨S128x64, h₀⟩, ⟨S128x64, h₁⟩, ⟨S128x64, h₂⟩, ⟨S128x64, h₃⟩]
    concatenates_S128x64_S128x64_S128x64_S128x64_S128x256_d1) bitsLt_bf16_f32

/-- The queries of the four heads, cut from a batch's projection. -/
def cut0 (q : FVec F S128x256 .bf16) : FVec F S128x64 .bf16 := extractStridedSlice S128x64 ![0, 0] q slices_S128x256_o0_0_S128x64
/-- The second head's. -/
def cut1 (q : FVec F S128x256 .bf16) : FVec F S128x64 .bf16 := extractStridedSlice S128x64 ![0, 64] q slices_S128x256_o0_64_S128x64
/-- The third head's. -/
def cut2 (q : FVec F S128x256 .bf16) : FVec F S128x64 .bf16 := extractStridedSlice S128x64 ![0, 128] q slices_S128x256_o0_128_S128x64
/-- The fourth head's. -/
def cut3 (q : FVec F S128x256 .bf16) : FVec F S128x64 .bf16 := extractStridedSlice S128x64 ![0, 192] q slices_S128x256_o0_192_S128x64

/-- The heads of batch 0. -/
def heads0 (c : Dev nD) : FVec F S128x256 .bf16 :=
  rowOf (headOf (V40 c) (V41 c) (cut0 (V24 m c)) (V45 m c) (V65 m c) (V253 m c) (V470 m c))
    (headOf (V40 c) (V41 c) (cut1 (V24 m c)) (V70 m c) (V90 m c) (V279 m c) (V479 m c))
    (headOf (V40 c) (V41 c) (cut2 (V24 m c)) (V95 m c) (V115 m c) (V305 m c) (V488 m c))
    (headOf (V40 c) (V41 c) (cut3 (V24 m c)) (V120 m c) (V140 m c) (V331 m c) (V497 m c))

/-- The heads of batch 1. -/
def heads1 (c : Dev nD) : FVec F S128x256 .bf16 :=
  rowOf (headOf (V40 c) (V41 c) (cut0 (V30 m c)) (V145 m c) (V165 m c) (V357 m c) (V514 m c))
    (headOf (V40 c) (V41 c) (cut1 (V30 m c)) (V170 m c) (V190 m c) (V383 m c) (V523 m c))
    (headOf (V40 c) (V41 c) (cut2 (V30 m c)) (V195 m c) (V215 m c) (V409 m c) (V532 m c))
    (headOf (V40 c) (V41 c) (cut3 (V30 m c)) (V220 m c) (V240 m c) (V435 m c) (V541 m c))

/-- Batch 0 of the result is the projection of its heads. -/
theorem out0_eq (c : Dev nD) : k0_pay100 (V508 m c) = k0_pay1 (heads0 m c) (V506 m c) := rfl

/-- Batch 1 of the result likewise. -/
theorem heads1_eq (c : Dev nD) : V549 m c = heads1 m c := rfl

end Cert.Swa

end
-- ==== Proof.Soft.lean ====
/-
# `Soft`: a softmax taken in two blocks is the softmax taken at once

Over the extended reals. A score is a real number, or `⊥` where it is masked; the values may be anything.
-/
module

public import Idealize.ShloMosaic.Lib.Pointwise

@[expose] public section

noncomputable section

namespace Cert.Soft

open Idealize.ShloMosaic

/-! ## Sums -/

/-- A finite sum times a real that is not negative is the sum of the products. -/
theorem sum_mul {ι : Type} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A finite sum of reals is real. -/
theorem sum_coe {ι : Type} (s : Finset ι) (f : ι → ℝ) : ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- A finite sum of products of reals is real. -/
theorem sum_mul_real {ι : Type} (s : Finset ι) {f g : ι → EReal} (hf : ∀ j, ∃ r : ℝ, f j = r) (hg : ∀ j, ∃ r : ℝ, g j = r) :
    ∃ r : ℝ, ∑ j ∈ s, f j * g j = r := by
  choose a ha using hf
  choose b hb using hg
  refine ⟨∑ j ∈ s, a j * b j, ?_⟩
  rw [← sum_coe]
  exact Finset.sum_congr rfl fun j _ => by rw [ha, hb, EReal.coe_mul]

/-! ## Exponentials -/

/-- The exponential of anything but `⊤` is a real that is not negative. -/
theorem exp_real {x : EReal} (h : x ≠ ⊤) : ∃ r : ℝ, 0 ≤ r ∧ Ideal.exp x = r := by
  induction x with
  | bot => exact ⟨0, le_refl _, by simp⟩
  | coe r => exact ⟨Real.exp r, (Real.exp_pos r).le, by simp⟩
  | top => exact absurd rfl h

/-- A score less a real bound is not `⊤`. -/
theorem sub_ne_top {s : EReal} (h : s ≠ ⊤) (t : ℝ) : s - (t : EReal) ≠ ⊤ := by
  induction s with
  | bot => simp
  | coe r => rw [← EReal.coe_sub]; exact EReal.coe_ne_top _
  | top => exact absurd rfl h

/-- A weight taken to one bound is moved to another by one factor. -/
theorem exp_shift {s : EReal} (h : s ≠ ⊤) (t u : ℝ) :
    Ideal.exp (s - (t : EReal)) * Ideal.exp ((t : EReal) - (u : EReal)) = Ideal.exp (s - (u : EReal)) := by
  induction s with
  | bot => simp
  | coe r =>
    rw [← EReal.coe_sub, ← EReal.coe_sub, ← EReal.coe_sub, Ideal.exp_coe, Ideal.exp_coe, Ideal.exp_coe, ← EReal.coe_mul,
      ← Real.exp_add]
    congr 2
    ring
  | top => exact absurd rfl h

/-! ## The softmax -/

/-- The largest of a family of scores. -/
def top {ι : Type} [Fintype ι] (S : ι → EReal) : EReal := Finset.univ.fold max ⊥ S

/-- The values summed under the softmax of the scores. -/
def soft {ι : Type} [Fintype ι] (S V : ι → EReal) : EReal :=
  ∑ J, V J * Ideal.div (Ideal.exp (S J - top S)) (∑ J', Ideal.exp (S J' - top S))

/-- The same from two blocks of the scores, the first block's sums taken to its own bound and then moved to the bound of both. -/
def merge {κ : Type} [Fintype κ] (s s' v v' : κ → EReal) : EReal :=
  Ideal.div
    ((∑ j, Ideal.exp (s j - top s) * v j) * Ideal.exp (top s - max (top s) (top s'))
      + ∑ j, Ideal.exp (s' j - max (top s) (top s')) * v' j)
    ((∑ j, Ideal.exp (s j - top s)) * Ideal.exp (top s - max (top s) (top s'))
      + ∑ j, Ideal.exp (s' j - max (top s) (top s')))

/-- The largest is the supremum. -/
theorem top_eq_sup {ι : Type} [Fintype ι] (S : ι → EReal) : top S = Finset.univ.sup S := rfl

/-- No score is above the largest. -/
theorem le_top {ι : Type} [Fintype ι] (S : ι → EReal) (J : ι) : S J ≤ top S := Finset.le_sup (f := S) (Finset.mem_univ J)

/-- A bound of every score bounds the largest. -/
theorem top_le {ι : Type} [Fintype ι] {S : ι → EReal} {t : EReal} (h : ∀ J, S J ≤ t) : top S ≤ t :=
  Finset.sup_le fun J _ => h J

/-- The largest of scores that are never `⊤`, and not all masked, is real. -/
theorem top_real {ι : Type} [Fintype ι] {S : ι → EReal} (ht : ∀ J, S J ≠ ⊤) (hb : ∃ J, S J ≠ ⊥) : ∃ t : ℝ, top S = t := by
  obtain ⟨J, hJ⟩ := hb
  have h₁ : top S ≠ ⊤ :=
    ne_of_lt ((Finset.sup_lt_iff (by simp)).2 fun J _ => lt_of_le_of_ne _root_.le_top (ht J))
  have h₂ : top S ≠ ⊥ := fun h => hJ (le_bot_iff.1 (h ▸ le_top S J))
  exact ⟨(top S).toReal, (EReal.coe_toReal h₁ h₂).symm⟩

/-- The two blocks give the whole: where the scores outside of the two blocks are masked, and each block has a score that is
    not. `hs` says that a family which vanishes outside of the two blocks sums to its sums over them; `hc` that a key outside of
    them is masked. -/
theorem merge_eq_soft {ι κ : Type} [Fintype ι] [Fintype κ] (S V : ι → EReal) (e e' : κ → ι)
    (hc : ∀ J, S J = ⊥ ∨ (∃ j, e j = J) ∨ ∃ j, e' j = J)
    (hs : ∀ g : ι → EReal, (∀ J, S J = ⊥ → g J = 0) → ∑ J, g J = ∑ j, g (e j) + ∑ j, g (e' j))
    (ht : ∀ J, S J ≠ ⊤) (hb : ∃ j, S (e j) ≠ ⊥) (hb' : ∃ j, S (e' j) ≠ ⊥) :
    merge (fun j => S (e j)) (fun j => S (e' j)) (fun j => V (e j)) (fun j => V (e' j)) = soft S V := by
  obtain ⟨t, h⟩ := top_real (S := fun j => S (e j)) (fun j => ht _) hb
  obtain ⟨t', h'⟩ := top_real (S := fun j => S (e' j)) (fun j => ht _) hb'
  have hT : top S = ((max t t' : ℝ) : EReal) := by
    apply le_antisymm
    · refine top_le fun J => ?_
      rcases hc J with hJ | ⟨j, rfl⟩ | ⟨j, rfl⟩
      · rw [hJ]; exact bot_le
      · exact ((le_top (fun j => S (e j)) j).trans h.le).trans (by exact_mod_cast le_max_left t t')
      · exact ((le_top (fun j => S (e' j)) j).trans h'.le).trans (by exact_mod_cast le_max_right t t')
    · rcases max_choice t t' with hm | hm <;> rw [hm]
      · exact h ▸ top_le fun j => le_top S (e j)
      · exact h' ▸ top_le fun j => le_top S (e' j)
  have hM : max ((t : ℝ) : EReal) ((t' : ℝ) : EReal) = ((max t t' : ℝ) : EReal) := (EReal.coe_strictMono.monotone.map_max).symm
  unfold merge soft
  rw [hT, h, h', hM]
  generalize max t t' = u
  obtain ⟨a, ha, hA⟩ := exp_real (sub_ne_top (EReal.coe_ne_top t) u)
  -- the first block's sums, moved to the common bound
  have e₁ : (∑ j, Ideal.exp (S (e j) - (t : EReal)) * V (e j)) * Ideal.exp ((t : EReal) - (u : EReal))
      = ∑ j, Ideal.exp (S (e j) - (u : EReal)) * V (e j) := by
    rw [hA, sum_mul _ _ ha]
    refine Finset.sum_congr rfl fun j _ => ?_
    rw [mul_right_comm, ← hA, exp_shift (ht _)]
  have e₂ : (∑ j, Ideal.exp (S (e j) - (t : EReal))) * Ideal.exp ((t : EReal) - (u : EReal))
      = ∑ j, Ideal.exp (S (e j) - (u : EReal)) := by
    rw [hA, sum_mul _ _ ha]
    refine Finset.sum_congr rfl fun j _ => ?_
    rw [← hA, exp_shift (ht _)]
  have hz : ∀ J, S J = ⊥ → Ideal.exp (S J - (u : EReal)) = 0 := fun J hJ => by rw [hJ]; simp
  rw [e₁, e₂, ← hs (fun J => Ideal.exp (S J - (u : EReal))) hz,
    ← hs (fun J => Ideal.exp (S J - (u : EReal)) * V J) fun J hJ => by rw [hz J hJ, zero_mul]]
  -- the sum of the weights is a positive real
  obtain ⟨l, hl, hL⟩ : ∃ l : ℝ, 0 < l ∧ ∑ J, Ideal.exp (S J - (u : EReal)) = l := by
    choose w hw hW using fun J => exp_real (sub_ne_top (ht J) u)
    refine ⟨∑ J, w J, ?_, by rw [← sum_coe]; exact Finset.sum_congr rfl fun J _ => hW J⟩
    obtain ⟨j, hj⟩ := hb
    refine Finset.sum_pos' (fun J _ => hw J) ⟨e j, Finset.mem_univ _, ?_⟩
    have := hW (e j)
    rw [← EReal.coe_toReal (ht (e j)) hj, ← EReal.coe_sub, Ideal.exp_coe] at this
    rw [← EReal.coe_eq_coe_iff.1 this]
    exact Real.exp_pos _
  rw [hL, Ideal.div_coe hl.ne', sum_mul _ _ (one_div_pos.2 hl).le]
  refine Finset.sum_congr rfl fun J _ => ?_
  rw [Ideal.div_coe hl.ne', mul_comm (Ideal.exp _) (V J), mul_assoc]

/-! ## The blocks of 512 keys -/

/-- Key `j` of block `b`. -/
def key (b : Fin 4) (j : Fin 128) : Fin 512 := ⟨128 * b.val + j.val, by omega⟩

/-- Column `d` of head `h`, among the columns of the four heads. -/
def col (h : Fin 4) (d : Fin 64) : Fin 256 := ⟨64 * h.val + d.val, by omega⟩

/-- A sum over the keys, block by block. -/
theorem sum_key (g : Fin 512 → EReal) : ∑ J, g J = ∑ b : Fin 4, ∑ j : Fin 128, g (key b j) := by
  rw [← Fintype.sum_prod_type', ← Equiv.sum_comp (finProdFinEquiv (m := 4) (n := 128))]
  refine Finset.sum_congr rfl fun p _ => congrArg g (Fin.ext ?_)
  simp [finProdFinEquiv, key, add_comm]

/-- A family that vanishes from key 256 on sums to its sums over the first two blocks, in either order. -/
theorem sum_two (g : Fin 512 → EReal) (hg : ∀ J, 256 ≤ J.val → g J = 0) {b b' : Fin 4} (h : (b = 0 ∧ b' = 1) ∨ (b = 1 ∧ b' = 0)) :
    ∑ J, g J = ∑ j, g (key b j) + ∑ j, g (key b' j) := by
  have z : ∀ b : Fin 4, 2 ≤ b.val → ∑ j, g (key b j) = 0 := fun b hb =>
    Finset.sum_eq_zero fun j _ => hg _ (by show 256 ≤ 128 * b.val + j.val; omega)
  rw [sum_key, Fin.sum_univ_four, z 2 (by decide), z 3 (by decide), add_zero, add_zero]
  rcases h with ⟨rfl, rfl⟩ | ⟨rfl, rfl⟩
  · rfl
  · exact add_comm _ _

/-- A key lies in one of the first two blocks, or is key 256 or a later one. -/
theorem key_cases (J : Fin 512) {b b' : Fin 4} (h : (b = 0 ∧ b' = 1) ∨ (b = 1 ∧ b' = 0)) :
    256 ≤ J.val ∨ (∃ j, key b j = J) ∨ ∃ j, key b' j = J := by
  by_cases h₁ : J.val < 128
  · have e : key 0 ⟨J.val, h₁⟩ = J := Fin.ext (by simp [key])
    rcases h with ⟨rfl, rfl⟩ | ⟨rfl, rfl⟩
    · exact .inr (.inl ⟨_, e⟩)
    · exact .inr (.inr ⟨_, e⟩)
  · by_cases h₂ : J.val < 256
    · have e : key 1 ⟨J.val - 128, by omega⟩ = J := Fin.ext (by simp [key]; omega)
      rcases h with ⟨rfl, rfl⟩ | ⟨rfl, rfl⟩
      · exact .inr (.inr ⟨_, e⟩)
      · exact .inr (.inl ⟨_, e⟩)
    · exact .inl (by omega)

/-- The softmax over 512 keys, masked from key 256 on, from its first two blocks in either order. -/
theorem merge_key (S V : Fin 512 → EReal) {b b' : Fin 4} (h : (b = 0 ∧ b' = 1) ∨ (b = 1 ∧ b' = 0))
    (hm : ∀ J, 256 ≤ J.val → S J = ⊥) (ht : ∀ J, S J ≠ ⊤) (hb : ∃ j, S (key b j) ≠ ⊥) (hb' : ∃ j, S (key b' j) ≠ ⊥) :
    merge (fun j => S (key b j)) (fun j => S (key b' j)) (fun j => V (key b j)) (fun j => V (key b' j)) = soft S V :=
  merge_eq_soft S V (key b) (key b')
    (fun J => (key_cases J h).imp_left (hm J))
    (fun g hg => sum_two g (fun J hJ => hg J (hm J hJ)) h) ht hb hb'

end Cert.Soft

end
-- ==== Proof.Near.lean ====
/-
# `Near`: which keys a query sees

Query `i` sees key `J` where they lie at most 128 apart, a comparison of words of 32 bits.
-/
module

public import Idealize.ShloMosaic.Lib.Pointwise

@[expose] public section

noncomputable section

namespace Cert.Near

open Idealize.ShloMosaic

/-- Whether key `J` lies at most 128 away from query `i`. -/
def near (i J : ℕ) : BitVec 1 := IntOp.cmpi .sle (IntOp.absi (IntOp.subi (BitVec.ofNat 32 i) (BitVec.ofNat 32 J))) 128#32

/-- A query sees the key of its own number. -/
theorem near_self (i : ℕ) : near i i = 1#1 := by
  unfold near IntOp.subi
  rw [BitVec.sub_self]
  decide

/-- Each of the 128 queries sees key 128. -/
theorem near_128 (i : Fin 128) : near i.val 128 = 1#1 := by
  revert i
  decide

/-- A distance above 128 compares as above 128. -/
theorem past : ∀ d : Fin 512, 129 ≤ d.val → IntOp.cmpi .sle (BitVec.ofNat 32 d.val) 128#32 = 0#1 := by decide

/-- None of them sees key 256 or a later one. -/
theorem far (i : Fin 128) (J : Fin 512) (h : 256 ≤ J.val) : near i.val J.val = 0#1 := by
  have hi := i.isLt
  have hJ := J.isLt
  have e : BitVec.ofNat 32 i.val - BitVec.ofNat 32 J.val = -BitVec.ofNat 32 (J.val - i.val) := by
    apply BitVec.eq_of_toNat_eq
    simp only [BitVec.toNat_sub, BitVec.toNat_neg, BitVec.toNat_ofNat]
    omega
  have hm : (-BitVec.ofNat 32 (J.val - i.val)).msb = true := by
    rw [BitVec.msb_eq_decide]
    simp only [BitVec.toNat_neg, BitVec.toNat_ofNat, decide_eq_true_eq]
    omega
  unfold near IntOp.subi IntOp.absi
  rw [e, hm, if_pos rfl, BitVec.neg_neg]
  exact past ⟨J.val - i.val, by omega⟩ (by show 129 ≤ J.val - i.val; omega)

end Cert.Near

end
-- ==== Proof.Point.lean ====
/-
# `Point`: the head's arithmetic over the extended reals, element by element
-/
module

public import proofs.«01_k».proof.Proof.Head
public import proofs.«01_k».proof.Proof.Soft
public import proofs.«01_k».proof.Proof.Near

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The queries of one batch under the projection. -/
theorem pay4_apply (x : Vec Ideal S1x128x512 .bf16) (w : Vec Ideal S512x256 .bf16) (i : Fin 128) (j : Fin 256) :
    k0_pay4 x w (ix2 i j) = ∑ e : Fin 512, x (ix3 0 i e) * w (ix2 e j) := by
  pointwise [k0_pay4]

/-- A head's queries, element by element. -/
theorem cut0_apply (q : FVec Ideal S128x256 .bf16) (i : Fin 128) (d : Fin 64) :
    cut0 q (ix2 i d) = q (ix2 i (Soft.col 0 d)) := by
  pointwise [cut0]
  congr 2
  exact Fin.ext (by simp [Soft.col])

/-- The second head's likewise. -/
theorem cut1_apply (q : FVec Ideal S128x256 .bf16) (i : Fin 128) (d : Fin 64) :
    cut1 q (ix2 i d) = q (ix2 i (Soft.col 1 d)) := by
  pointwise [cut1]
  congr 2

/-- The third head's likewise. -/
theorem cut2_apply (q : FVec Ideal S128x256 .bf16) (i : Fin 128) (d : Fin 64) :
    cut2 q (ix2 i d) = q (ix2 i (Soft.col 2 d)) := by
  pointwise [cut2]
  congr 2

/-- The fourth head's likewise. -/
theorem cut3_apply (q : FVec Ideal S128x256 .bf16) (i : Fin 128) (d : Fin 64) :
    cut3 q (ix2 i d) = q (ix2 i (Soft.col 3 d)) := by
  pointwise [cut3]
  congr 2

/-- A score: the scaled product of a query and a key, masked where they are far from each other. -/
theorem scoreOf_apply (b : Fin 4) (q : FVec Ideal S128x64 .bf16) (k : Vec Ideal S1x64x128 .bf16) (i j : Fin 128) :
    scoreOf (BitVec.ofNat 32 (128 * b.val)) q k (ix2 i j)
      = Scalar.select (Near.near i.val (Soft.key b j).val)
          ((∑ d : Fin 64, q (ix2 i d) * k (ix3 0 d j)) * Ideal.ofBits .f32 0x3E000000#32) ⊥ := by
  pointwise [scoreOf]
  have e : IntOp.addi (BitVec.ofNat 32 j.val) (BitVec.ofNat 32 (128 * b.val)) = BitVec.ofNat 32 (Soft.key b j).val := by
    show BitVec.ofNat 32 j.val + BitVec.ofNat 32 (128 * b.val) = BitVec.ofNat 32 (128 * b.val + j.val)
    rw [← BitVec.ofNat_add, add_comm]
  rw [e]
  rfl

/-- The word of minus infinity denotes the least element. -/
theorem ofBits_bot : Ideal.ofBits .f32 0xFF800000#32 = ⊥ := by
  simp [Ideal.ofBits, Ideal.ieee]

/-- The largest score of a query. -/
theorem topOf_apply (s : FVec Ideal S128x128 .f32) (i : Fin 128) (j : Fin 1) :
    topOf s (ix2 i j) = Soft.top fun j => s (ix2 i j) := by
  pointwise [topOf]
  rw [ofBits_bot]
  rfl

/-- The sum of a query's weights. -/
theorem sumOf_apply (p : FVec Ideal S128x128 .f32) (i : Fin 128) (j : Fin 1) :
    sumOf p (ix2 i j) = ∑ j, p (ix2 i j) := by
  pointwise [sumOf]

/-- The weight of a key before the division. -/
theorem expOf_apply (s : FVec Ideal S128x128 .f32) (t : FVec Ideal S128x1 .f32) (i j : Fin 128) :
    expOf s t (ix2 i j) = Ideal.exp (s (ix2 i j) - t (ix2 i 0)) := by
  pointwise [expOf]

/-- The values under a query's weights. -/
theorem mixOf_apply (p : FVec Ideal S128x128 .f32) (v : Vec Ideal S1x64x128 .bf16) (i : Fin 128) (d : Fin 64) :
    mixOf p v (ix2 i d) = ∑ j, p (ix2 i j) * v (ix3 0 d j) := by
  pointwise [mixOf]

/-- A head's element is the two-block softmax of its row of scores. -/
theorem mergeOf_apply (s s' : FVec Ideal S128x128 .f32) (v v' : Vec Ideal S1x64x128 .bf16) (i : Fin 128) (d : Fin 64) :
    mergeOf s s' v v' (ix2 i d)
      = Soft.merge (fun j => s (ix2 i j)) (fun j => s' (ix2 i j)) (fun j => v (ix3 0 d j)) (fun j => v' (ix3 0 d j)) := by
  have hm : maximumf (topOf s) (topOf s') (ix2 i 0) = max (topOf s (ix2 i 0)) (topOf s' (ix2 i 0)) := rfl
  pointwise [mergeOf]
  simp only [mixOf_apply, sumOf_apply, expOf_apply, topOf_apply, hm]
  rfl

/-- The heads of a batch side by side: column `64 h + d` is column `d` of head `h`. -/
theorem rowOf_apply (r : Fin 4 → FVec Ideal S128x64 .f32) (i : Fin 128) (h : Fin 4) (d : Fin 64) :
    rowOf (r 0) (r 1) (r 2) (r 3) (ix2 i (Soft.col h d)) = r h (ix2 i d) := by
  pointwise [rowOf]
  have hd := d.isLt
  have hh := h.isLt
  have e : (Soft.col h d).val = 64 * h.val + d.val := rfl
  have key : ∀ (k : Fin 4) (y : Fin 64), h = k → y = d → r k (ix2 i y) = r h (ix2 i d) := by
    rintro _ _ rfl rfl
    rfl
  by_cases h₀ : (Soft.col h d).val < 64
  · rw [dif_pos h₀]
    exact key 0 _ (Fin.ext (show h.val = 0 by omega)) (Fin.ext (show (Soft.col h d).val = d.val by omega))
  rw [dif_neg h₀]
  by_cases h₁ : (Soft.col h d).val - 64 < 64
  · rw [dif_pos h₁]
    exact key 1 _ (Fin.ext (show h.val = 1 by omega)) (Fin.ext (show (Soft.col h d).val - 64 = d.val by omega))
  rw [dif_neg h₁]
  by_cases h₂ : (Soft.col h d).val - 64 - 64 < 64
  · rw [dif_pos h₂]
    exact key 2 _ (Fin.ext (show h.val = 2 by omega)) (Fin.ext (show (Soft.col h d).val - 64 - 64 = d.val by omega))
  rw [dif_neg h₂]
  exact key 3 _ (Fin.ext (show h.val = 3 by omega)) (Fin.ext (show (Soft.col h d).val - 64 - 64 - 64 = d.val by omega))

/-- A batch of the result: the projection of its heads. -/
theorem pay1_apply (r : FVec Ideal S128x256 .bf16) (w : Vec Ideal S256x512 .bf16) (b : Fin 1) (i : Fin 128) (n : Fin 512) :
    k0_pay1 r w (ix3 b i n) = ∑ a : Fin 256, r (ix2 i a) * w (ix2 a n) := by
  pointwise [k0_pay1]

end Cert.Swa

end
-- ==== Proof.Loads.lean ====
/-
# `Loads`: what the kernel's loads hold
-/
module

public import proofs.«01_k».proof.Proof.Point
public import proofs.«01_k».proof.Proof.Launch

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- A load of 64 rows of the gathered buffer. -/
theorem gather_apply (g : (cc0_scratch0 : Ref sig .tc).ty.Contents (Elt F)) (s o : ℕ)
    (hb : ∀ a, (![s, o, 0] : Fin 3 → ℕ) a + S1x64x128.size a ≤ S2x1024x128.size a)
    (hs : s < 2) (ho : o + 64 ≤ 1024) (z : Fin 1) (d : Fin 64) (j : Fin 128) :
    gM.view.readAt (Elt F) (Rect.unit (s := S2x1024x128) ![s, o, 0] S1x64x128.size hb).toLoadRect g (ix3 z d j)
      = g (ix3 ⟨s, hs⟩ ⟨o + d.val, by omega⟩ j) := by
  show g _ = g _
  congr 1
  funext a
  have hz : z.val = 0 := by omega
  fin_cases a
  · exact Fin.ext (show s + 1 * z.val = s by omega)
  · exact Fin.ext (show o + 1 * d.val = o + d.val by omega)
  · exact Fin.ext (show 0 + 1 * j.val = j.val by omega)

/-- A load of one batch of the staged queries. -/
theorem batch_apply (g : (cc0_stg0_0 : Ref sig .tc).ty.Contents (Elt F)) (b : ℕ)
    (hb : ∀ a, (![b, 0, 0] : Fin 3 → ℕ) a + S1x128x512.size a ≤ S2x128x512.size a)
    (h : b < 2) (z : Fin 1) (i : Fin 128) (e : Fin 512) :
    xM.view.readAt (Elt F) (Rect.unit (s := S2x128x512) ![b, 0, 0] S1x128x512.size hb).toLoadRect g (ix3 z i e)
      = g (ix3 ⟨b, h⟩ i e) := by
  show g _ = g _
  congr 1
  funext a
  have hz : z.val = 0 := by omega
  fin_cases a
  · exact Fin.ext (show b + 1 * z.val = b by omega)
  · exact Fin.ext (show 0 + 1 * i.val = i.val by omega)
  · exact Fin.ext (show 0 + 1 * e.val = e.val by omega)

/-- A load of the whole of a staged matrix. -/
theorem wq_apply (g : (cc0_stg1_0 : Ref sig .tc).ty.Contents (Elt F)) (e : Fin 512) (n : Fin 256) :
    qM.view.readAt (Elt F) (Rect.unit (s := S512x256) ![0, 0] S512x256.size inb_S512x256_S512x256_0_0).toLoadRect g (ix2 e n)
      = g (ix2 e n) := by
  show g _ = g _
  congr 1
  funext a
  fin_cases a
  · exact Fin.ext (show 0 + 1 * e.val = e.val by omega)
  · exact Fin.ext (show 0 + 1 * n.val = n.val by omega)

/-- The output's projection is read as it is. -/
theorem wo_apply (g : (cc0_stg3_0 : Ref sig .tc).ty.Contents (Elt F)) (e : Fin 256) (n : Fin 512) :
    wM.view.readAt (Elt F) (Rect.unit (s := S256x512) ![0, 0] S256x512.size inb_S256x512_S256x512_0_0).toLoadRect g (ix2 e n)
      = g (ix2 e n) := by
  show g _ = g _
  congr 1
  funext a
  fin_cases a
  · exact Fin.ext (show 0 + 1 * e.val = e.val by omega)
  · exact Fin.ext (show 0 + 1 * n.val = n.val by omega)

/-! ## What the region finds -/

/-- A device's arguments: the inputs, the query projection, its block of the keys, its block of the values, the output
    projection. -/
def argX (c : Dev nD) : FVec F S2x128x512 .f32 := m ((c : Thread nD τ).loc main_arg0)
/-- The projection of the queries. -/
def argW (c : Dev nD) : FVec F S512x256 .f32 := m ((c : Thread nD τ).loc main_arg1)
/-- The keys. -/
def argK (c : Dev nD) : FVec F S2x128x4x64 .f32 := m ((c : Thread nD τ).loc main_arg2)
/-- The values. -/
def argV (c : Dev nD) : FVec F S2x128x4x64 .f32 := m ((c : Thread nD τ).loc main_arg3)
/-- The projection of the output. -/
def argO (c : Dev nD) : FVec F S256x512 .f32 := m ((c : Thread nD τ).loc main_arg4)

/-- A device's keys over its values, a row for each batch, head and element of a head. -/
def kvOf (k v : FVec F S2x128x4x64 .f32) : FVec F S1024x128 .bf16 :=
  truncf .bf16 (concatenate S1024x128 0
    [⟨S512x128, shapeCast S512x128 (transpose S2x4x64x128 [0, 2, 3, 1] k transposes_S2x128x4x64_S2x4x64x128_0_2_3_1) shapeCasts_S2x4x64x128_S512x128⟩,
      ⟨S512x128, shapeCast S512x128 (transpose S2x4x64x128 [0, 2, 3, 1] v transposes_S2x128x4x64_S2x4x64x128_0_2_3_1) shapeCasts_S2x4x64x128_S512x128⟩]
    concatenates_S512x128_S512x128_S1024x128_d0) bitsLt_bf16_f32

/-- Each window's block is the whole of its array, as the operations before the region left it. -/
theorem blk0 (c : Dev nD) : (iblk m c 0 t0_0 : FVec F S2x128x512 .bf16) = truncf .bf16 (argX m c) bitsLt_bf16_f32 := by
  refine (Memref.read_access_unit_zero (Elt F) main_v7 (funext fun a => Nat.zero_mul _) _ _).trans ?_
  show V m c main_v7 = _
  unfold V
  after_results
  rfl
/-- The staged projection of the queries is the argument's. -/
theorem blk1 (c : Dev nD) : (iblk m c 1 t0_0 : FVec F S512x256 .bf16) = truncf .bf16 (argW m c) bitsLt_bf16_f32 := by
  refine (Memref.read_access_unit_zero (Elt F) main_v8 (funext fun a => Nat.zero_mul _) _ _).trans ?_
  show V m c main_v8 = _
  unfold V
  after_results
  rfl
/-- The staged block of keys and values is packed from the arguments. -/
theorem blk2 (c : Dev nD) : (iblk m c 2 t0_0 : FVec F S1024x128 .bf16) = kvOf (argK m c) (argV m c) := by
  refine (Memref.read_access_unit_zero (Elt F) main_v6 (funext fun a => Nat.zero_mul _) _ _).trans ?_
  show V m c main_v6 = _
  unfold V
  after_results
  rfl
/-- The staged projection of the output is the argument's. -/
theorem blk3 (c : Dev nD) : (iblk m c 3 t0_0 : FVec F S256x512 .bf16) = truncf .bf16 (argO m c) bitsLt_bf16_f32 := by
  refine (Memref.read_access_unit_zero (Elt F) main_v9 (funext fun a => Nat.zero_mul _) _ _).trans ?_
  show V m c main_v9 = _
  unfold V
  after_results
  rfl

/-- The first 512 rows hold the keys, transposed. -/
theorem kvOf_key (k v : FVec Ideal S2x128x4x64 .f32) (b : Fin 2) (h : Fin 4) (d : Fin 64) (j : Fin 128)
    (p : 64 * (4 * b.val + h.val) + d.val < 1024) :
    kvOf k v (ix2 ⟨64 * (4 * b.val + h.val) + d.val, p⟩ j) = k (ix4 b j h d) := by
  pointwise [kvOf]
  rw [dif_pos (by omega)]

/-- The last 512 rows hold the values, transposed. -/
theorem kvOf_val (k v : FVec Ideal S2x128x4x64 .f32) (b : Fin 2) (h : Fin 4) (d : Fin 64) (j : Fin 128)
    (p : 512 + 64 * (4 * b.val + h.val) + d.val < 1024) :
    kvOf k v (ix2 ⟨512 + 64 * (4 * b.val + h.val) + d.val, p⟩ j) = v (ix4 b j h d) := by
  pointwise [kvOf]
  rw [dif_neg (by omega)]
  congr 1
  have e₁ : (⟨(512 + 64 * (4 * b.val + h.val) + d.val - 512) / 256, by omega⟩ : Fin 2) = b := Fin.ext (by simp only; omega)
  have e₂ : (⟨(512 + 64 * (4 * b.val + h.val) + d.val - 512) / 64 % 4, by omega⟩ : Fin 4) = h := Fin.ext (by simp only; omega)
  have e₃ : (⟨(512 + 64 * (4 * b.val + h.val) + d.val - 512) % 64, by omega⟩ : Fin 64) = d := Fin.ext (by simp only; omega)
  rw [e₁, e₂, e₃]

/-! ## The loads -/

variable (mI : (ℓ : Loc nD τ sig) → Buf (Elt Ideal) ℓ)

/-- The device whose block lies in a slot of the gathered buffer. -/
def src (s : Fin 2) (c : Dev nD) : Dev nD := if s = 0 then fsrc c else ssrc c

/-- A slot of the gathered buffer holds the block of its device. -/
theorem gV_slot (c : Dev nD) (s : Fin 2) (r : Fin 1024) (j : Fin 128) :
    (gV mI c : FVec Ideal S2x1024x128 .bf16) (ix3 s r j) = kvOf (argK mI (src s c)) (argV mI (src s c)) (ix2 r j) := by
  rw [← blk2 mI (src s c)]
  have e : (fun a : Fin 2 => (ix3 s r j : S2x1024x128.Idx) a.succ) = (ix2 r j : S1024x128.Idx) := by
    funext a
    fin_cases a <;> rfl
  unfold gV src
  fin_cases s
  · exact congrArg (kvb mI (fsrc c)) e
  · exact congrArg (kvb mI (ssrc c)) e

/-- A load of a head's keys in a slot: the keys of the slot's device. -/
theorem load_key (c : Dev nD) (s b : Fin 2) (h : Fin 4) (o : ℕ) (ho : o = 64 * (4 * b.val + h.val))
    (hb : ∀ a, (![s.val, o, 0] : Fin 3 → ℕ) a + S1x64x128.size a ≤ S2x1024x128.size a) (z : Fin 1) (d : Fin 64) (j : Fin 128) :
    gM.view.readAt (Elt Ideal) (Rect.unit (s := S2x1024x128) ![s.val, o, 0] S1x64x128.size hb).toLoadRect (gV mI c) (ix3 z d j)
      = argK mI (src s c) (ix4 b j h d) := by
  subst ho
  rw [gather_apply _ _ _ hb s.isLt (by omega), gV_slot, kvOf_key]

/-- A load of a head's values likewise. -/
theorem load_val (c : Dev nD) (s b : Fin 2) (h : Fin 4) (o : ℕ) (ho : o = 512 + 64 * (4 * b.val + h.val))
    (hb : ∀ a, (![s.val, o, 0] : Fin 3 → ℕ) a + S1x64x128.size a ≤ S2x1024x128.size a) (z : Fin 1) (d : Fin 64) (j : Fin 128) :
    gM.view.readAt (Elt Ideal) (Rect.unit (s := S2x1024x128) ![s.val, o, 0] S1x64x128.size hb).toLoadRect (gV mI c) (ix3 z d j)
      = argV mI (src s c) (ix4 b j h d) := by
  subst ho
  rw [gather_apply _ _ _ hb s.isLt (by omega), gV_slot, kvOf_val]

/-- The projected queries of batch 0. -/
theorem V24_apply (c : Dev nD) (i : Fin 128) (a : Fin 256) :
    V24 mI c (ix2 i a) = ∑ e : Fin 512, argX mI c (ix3 0 i e) * argW mI c (ix2 e a) := by
  unfold V24
  rw [pay4_apply]
  refine Finset.sum_congr rfl fun e _ => ?_
  unfold V19 V21
  rw [batch_apply _ 0 _ (by decide), wq_apply, blk0, blk1]
  rfl

/-- The projected queries of batch 1. -/
theorem V30_apply (c : Dev nD) (i : Fin 128) (a : Fin 256) :
    V30 mI c (ix2 i a) = ∑ e : Fin 512, argX mI c (ix3 1 i e) * argW mI c (ix2 e a) := by
  show k0_pay4 (V25 mI c) (V27 mI c) (ix2 i a) = _
  rw [pay4_apply]
  refine Finset.sum_congr rfl fun e _ => ?_
  unfold V25 V27
  rw [batch_apply _ 1 _ (by decide), wq_apply, blk0, blk1]
  rfl

/-- The output projection, as each batch loads it. -/
theorem V506_apply (c : Dev nD) (a : Fin 256) (n : Fin 512) :
    V506 mI c (ix2 a n) = argO mI c (ix2 a n) := by
  unfold V506
  rw [wo_apply, blk3]
  rfl

/-- The second load of the output's projection. -/
theorem V550_apply (c : Dev nD) (a : Fin 256) (n : Fin 512) :
    V550 mI c (ix2 a n) = argO mI c (ix2 a n) := V506_apply mI c a n

/-- The first key of each slot's block, as the masks take it: 128 times the number of the slot's device. -/
theorem V40_eq (c : Dev nD) : V40 c = BitVec.ofNat 32 (128 * (fsrc c).val) := by
  revert c
  decide

/-- The offset of the keys of slot 1. -/
theorem V41_eq (c : Dev nD) : V41 c = BitVec.ofNat 32 (128 * (ssrc c).val) := by
  revert c
  decide

/-- The two slots hold the blocks of devices 0 and 1. -/
theorem srcs (c : Dev nD) : (fsrc c = 0 ∧ ssrc c = 1) ∨ (fsrc c = 1 ∧ ssrc c = 0) := by
  revert c
  decide

end Cert.Swa

end
-- ==== Proof.RefVal.lean ====
/-
# `RefVal`: what the reference computes, element by element over the extended reals
-/
module

public import proofs.«01_k».proof.Proof.Gen.ReferenceIdeal.Run
public import proofs.«01_k».proof.Proof.Soft
public import proofs.«01_k».proof.Proof.Near

@[expose] public section

noncomputable section

namespace Cert.Ref

open Cert.ReferenceIdeal Cert.ReferenceIdeal.Gen

open Idealize.ShloMosaic
open Idealize.ShloMosaic.TcCoe
open Idealize.ShloMosaic.StableHlo

variable {F : FTy → Type} [FloatOps F]

/-- Where a key is at most 128 away from a query. -/
def near : IVec S128x512 1 :=
  cmpi .sle (absi (subi (broadcastInDim S128x512 ![0, 1] bcast_S128x1_S128x512_0_1 (broadcastInDim S128x1 ![0] bcast_S128_S128x1_0 (iotaInDim S128 32 0)))
    (broadcastInDim S128x512 ![0, 1] bcast_S1x512_S128x512_0_1 (broadcastInDim S1x512 ![1] bcast_S512_S1x512_1 (iotaInDim S512 32 0)))))
    (broadcastInDim S128x512 ![] bcast_S_S128x512 (constantI S_ 32 128#32))

/-- Where a query has a key near it. -/
def some : IVec S1x1x128x1 1 :=
  broadcastInDim S1x1x128x1 ![2] bcast_S128_S1x1x128x1_2 (Host.reduce IntOp.ori near (constantI S_ 1 0#1) reducesTo_S128x512_S128_d1 h_S_)

/-- The scores of every batch, head, query and key. -/
def scores (x : FVec F S2x128x512 .f32) (w : FVec F S512x256 .f32) (k : FVec F S2x512x4x64 .f32) : FVec F S2x4x128x512 .f32 :=
  select (broadcastInDim S2x4x128x512 ![0, 1, 2, 3] bcast_S1x1x128x512_S2x4x128x512_0_1_2_3 (broadcastInDim S1x1x128x512 ![2, 3] bcast_S128x512_S1x1x128x512_2_3 near))
    (mulf (Host.dotGeneral dot_S2x128x4x64_S2x512x4x64_S2x4x128x512_3_3_1_1_02_02 none
        (shapeCast _ (Host.dotGeneral dot_S2x128x512_S512x256_S2x128x256_2_0_01_1_n_n none x w) shapeCasts_S2x128x256_S2x128x4x64) k)
      (broadcastInDim S2x4x128x512 ![] bcast_S_S2x4x128x512 (constant S_ .f32 0x3E000000#32)))
    (broadcastInDim S2x4x128x512 ![] bcast_S_S2x4x128x512 (id (constant S_ .f32 0xFF800000#32)))

/-- The largest score of a query. -/
def top (s : FVec F S2x4x128x512 .f32) : FVec F S2x4x128 .f32 :=
  Host.reduce FloatOps.maximumf s (constant S_ .f32 0xFF800000#32) reducesTo_S2x4x128x512_S2x4x128_d3 h_S_

/-- The exponential of each score less the largest of its query. -/
def weights (s : FVec F S2x4x128x512 .f32) : FVec F S2x4x128x512 .f32 :=
  Host.exp (subf s (broadcastInDim S2x4x128x512 ![0, 1, 2, 3] bcast_S2x4x128x1_S2x4x128x512_0_1_2_3
    (broadcastInDim S2x4x128x1 ![0, 1, 2] bcast_S2x4x128_S2x4x128x1_0_1_2 (top s))))

/-- The sum of a query's weights, one where the query has no key near it. -/
def total (p : FVec F S2x4x128x512 .f32) : FVec F S2x4x128x1 .f32 :=
  select (broadcastInDim S2x4x128x1 ![0, 1, 2, 3] bcast_S1x1x128x1_S2x4x128x1_0_1_2_3 some)
    (broadcastInDim S2x4x128x1 ![0, 1, 2] bcast_S2x4x128_S2x4x128x1_0_1_2
      (Host.reduceAdd p (constant S_ .f32 0x00000000#32) reducesTo_S2x4x128x512_S2x4x128_d3 h_S_))
    (broadcastInDim S2x4x128x1 ![] bcast_S_S2x4x128x1 (id (constant S_ .f32 0x3F800000#32)))

/-- The weights divided by their sum, zero where the query has no key near it. -/
def shares (p : FVec F S2x4x128x512 .f32) : FVec F S2x4x128x512 .f32 :=
  select (broadcastInDim S2x4x128x512 ![0, 1, 2, 3] bcast_S1x1x128x1_S2x4x128x512_0_1_2_3 some)
    (Host.divf p (broadcastInDim S2x4x128x512 ![0, 1, 2, 3] bcast_S2x4x128x1_S2x4x128x512_0_1_2_3 (total p)))
    (broadcastInDim S2x4x128x512 ![] bcast_S_S2x4x128x512 (id (constant S_ .f32 0x00000000#32)))

/-- The values summed under the shares, the heads side by side. -/
def mixed (v : FVec F S2x512x4x64 .f32) (a : FVec F S2x4x128x512 .f32) : FVec F S2x128x256 .f32 :=
  shapeCast _ (transpose S2x128x4x64 [0, 3, 1, 2] (Host.dotGeneral dot_S2x512x4x64_S2x4x128x512_S2x4x64x128_1_3_3_2_02_01 none v a)
    transposes_S2x4x64x128_S2x128x4x64_0_3_1_2) shapeCasts_S2x128x4x64_S2x128x256

/-- The reference's result. -/
def result (x : FVec F S2x128x512 .f32) (w : FVec F S512x256 .f32) (k v : FVec F S2x512x4x64 .f32) (o : FVec F S256x512 .f32) : FVec F S2x128x512 .f32 :=
  Host.dotGeneral dot_S2x128x256_S256x512_S2x128x512_2_0_01_1_n_n none (mixed v (shares (weights (scores x w k)))) o

/-- The term that the reference's run ends with is that result of its arguments. -/
theorem res_eq (m : (ℓ : Loc nD τ sig) → Buf (Elt F) ℓ) (c : Dev nD) :
    Value.res_main_v34 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-! ## Element by element -/

/-- The reference's mask, element by element. -/
theorem near_apply (i : Fin 128) (J : Fin 512) : near (ix2 i J) = Near.near i.val J.val := by
  pointwise [near]
  rfl

/-- An or over a family in which some member is 1. -/
theorem fold_ori {ι : Type} [DecidableEq ι] (s : Finset ι) (f : ι → BitVec 1) {a : ι} (ha : a ∈ s) (h : f a = 1#1) :
    s.fold IntOp.ori 0#1 f = 1#1 := by
  rw [← Finset.insert_erase ha, Finset.fold_insert (Finset.notMem_erase a s), h]
  generalize (s.erase a).fold IntOp.ori 0#1 f = y
  revert y
  decide

/-- Every query has a key near it: its own. -/
theorem some_apply (b h : Fin 1) (i : Fin 128) (j : Fin 1) : some (ix4 b h i j) = 1#1 := by
  pointwise [some]
  refine fold_ori _ _ (Finset.mem_univ (⟨i.val, by omega⟩ : Fin 512)) ?_
  rw [near_apply]
  exact Near.near_self i.val

/-- The word of minus infinity denotes the least element. -/
theorem ofBits_bot : Ideal.ofBits .f32 0xFF800000#32 = ⊥ := by
  simp [Ideal.ofBits, Ideal.ieee]

/-- A score: the scaled product of a projected query and a key, masked where they are far from each other. -/
theorem scores_apply (x : FVec Ideal S2x128x512 .f32) (w : FVec Ideal S512x256 .f32) (k : FVec Ideal S2x512x4x64 .f32)
    (b : Fin 2) (h : Fin 4) (i : Fin 128) (J : Fin 512) :
    scores x w k (ix4 b h i J)
      = Scalar.select (Near.near i.val J.val)
          ((∑ d : Fin 64, (∑ e : Fin 512, x (ix3 b i e) * w (ix2 e (Soft.col h d))) * k (ix4 b J h d))
            * Ideal.ofBits .f32 0x3E000000#32) ⊥ := by
  have e : ∀ d : Fin 64, (⟨h.val * 64 + d.val, by omega⟩ : Fin 256) = Soft.col h d := fun d =>
    Fin.ext (by simp [Soft.col, mul_comm])
  pointwise [scores]
  simp only [e, near_apply]
  rw [← ofBits_bot]
  rfl

/-- The largest score of a query. -/
theorem top_apply (s : FVec Ideal S2x4x128x512 .f32) (b : Fin 2) (h : Fin 4) (i : Fin 128) :
    top s (ix3 b h i) = Soft.top fun J => s (ix4 b h i J) := by
  pointwise [top]
  rw [ofBits_bot]
  rfl

/-- Its weights before the division. -/
theorem weights_apply (s : FVec Ideal S2x4x128x512 .f32) (b : Fin 2) (h : Fin 4) (i : Fin 128) (J : Fin 512) :
    weights s (ix4 b h i J) = Ideal.exp (s (ix4 b h i J) - Soft.top fun J => s (ix4 b h i J)) := by
  pointwise [weights]
  rw [top_apply]

/-- Its weights after the division. -/
theorem shares_apply (p : FVec Ideal S2x4x128x512 .f32) (b : Fin 2) (h : Fin 4) (i : Fin 128) (J : Fin 512) :
    shares p (ix4 b h i J) = Ideal.div (p (ix4 b h i J)) (∑ J', p (ix4 b h i J')) := by
  pointwise [shares, total]
  rw [some_apply]
  rfl

/-- Its weighted values. -/
theorem mixed_apply (v : FVec Ideal S2x512x4x64 .f32) (a : FVec Ideal S2x4x128x512 .f32) (b : Fin 2) (i : Fin 128)
    (h : Fin 4) (d : Fin 64) :
    mixed v a (ix3 b i (Soft.col h d)) = ∑ J, v (ix4 b J h d) * a (ix4 b h i J) := by
  have hh : ∀ p, (⟨(Soft.col h d).val / 64, p⟩ : Fin 4) = h := fun p => Fin.ext (by
    show (64 * h.val + d.val) / 64 = h.val; omega)
  have hd : ∀ p, (⟨(Soft.col h d).val % 64, p⟩ : Fin 64) = d := fun p => Fin.ext (by
    show (64 * h.val + d.val) % 64 = d.val; omega)
  pointwise [mixed]
  simp only [hh, hd]

/-- A head's element is the softmax of its row of scores. -/
theorem mixed_soft (v : FVec Ideal S2x512x4x64 .f32) (s : FVec Ideal S2x4x128x512 .f32) (b : Fin 2) (i : Fin 128)
    (h : Fin 4) (d : Fin 64) :
    mixed v (shares (weights s)) (ix3 b i (Soft.col h d))
      = Soft.soft (fun J => s (ix4 b h i J)) (fun J => v (ix4 b J h d)) := by
  simp only [mixed_apply, shares_apply, weights_apply]
  rfl

/-- The result is the projection of the heads. -/
theorem result_apply (x : FVec Ideal S2x128x512 .f32) (w : FVec Ideal S512x256 .f32) (k v : FVec Ideal S2x512x4x64 .f32)
    (o : FVec Ideal S256x512 .f32) (b : Fin 2) (i : Fin 128) (n : Fin 512) :
    result x w k v o (ix3 b i n) = ∑ a : Fin 256, mixed v (shares (weights (scores x w k))) (ix3 b i a) * o (ix2 a n) := by
  pointwise [result]

end Cert.Ref

end
-- ==== Proof.Value.lean ====
/-
# `Value`: the kernel's result is the reference's
-/
module

public import proofs.«01_k».proof.Proof.Loads
public import proofs.«01_k».proof.Proof.RefVal

@[expose] public section

noncomputable section

namespace Cert.Swa

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)
variable (x : FVec Ideal S2x128x512 .f32) (w : FVec Ideal S512x256 .f32)
  (k v : FVec Ideal Cert.ReferenceIdeal.S2x512x4x64 .f32) (o : FVec Ideal S256x512 .f32)

/-! ## The scores are real where they are not masked -/

/-- The scale is real. -/
theorem scale_real : ∃ r : ℝ, Ideal.ofBits .f32 0x3E000000#32 = r := by
  refine ⟨0.125, ?_⟩
  simp [Ideal.ofBits, Ideal.ieee]
  rw [← EReal.coe_mul]
  norm_num

variable {x w k} in
/-- The scaled products are real where the inputs, the projection and the keys are. -/
theorem product_real (hx : ∀ i, ∃ r : ℝ, x i = r) (hw : ∀ i, ∃ r : ℝ, w i = r) (hk : ∀ i, ∃ r : ℝ, k i = r)
    (b : Fin 2) (h : Fin 4) (i : Fin 128) (J : Fin 512) :
    ∃ r : ℝ, (∑ d : Fin 64, (∑ e : Fin 512, x (ix3 b i e) * w (ix2 e (Soft.col h d))) * k (ix4 b J h d))
      * Ideal.ofBits .f32 0x3E000000#32 = r := by
  obtain ⟨r, hr⟩ := Soft.sum_mul_real Finset.univ
    (f := fun d => ∑ e : Fin 512, x (ix3 b i e) * w (ix2 e (Soft.col h d))) (g := fun d => k (ix4 b J h d))
    (fun d => Soft.sum_mul_real Finset.univ (fun e => hx _) fun e => hw _) fun d => hk _
  obtain ⟨s, hs⟩ := scale_real
  exact ⟨r * s, by rw [hr, hs, EReal.coe_mul]⟩

/-! ## One head -/

/-- A head over the extended reals: the two-block softmax of its scores. -/
theorem headOf_apply (b b' : Fin 4) (q : FVec Ideal S128x64 .bf16) (k v k' v' : Vec Ideal S1x64x128 .bf16) (i : Fin 128) (d : Fin 64) :
    headOf (BitVec.ofNat 32 (128 * b.val)) (BitVec.ofNat 32 (128 * b'.val)) q k v k' v' (ix2 i d)
      = Soft.merge
          (fun j => Scalar.select (Near.near i.val (Soft.key b j).val)
            ((∑ d : Fin 64, q (ix2 i d) * k (ix3 0 d j)) * Ideal.ofBits .f32 0x3E000000#32) ⊥)
          (fun j => Scalar.select (Near.near i.val (Soft.key b' j).val)
            ((∑ d : Fin 64, q (ix2 i d) * k' (ix3 0 d j)) * Ideal.ofBits .f32 0x3E000000#32) ⊥)
          (fun j => v (ix3 0 d j)) (fun j => v' (ix3 0 d j)) := by
  unfold headOf
  rw [mergeOf_apply]
  simp only [scoreOf_apply]

variable {x w k} in
/-- A head whose queries are the projected ones, and whose slots hold the blocks of devices `f` and `g`, which are devices 0 and
    1 in one order or the other, is the reference's. -/
theorem head_eq (hx : ∀ i, ∃ r : ℝ, x i = r) (hw : ∀ i, ∃ r : ℝ, w i = r) (hk : ∀ i, ∃ r : ℝ, k i = r)
    (b : Fin 2) (h : Fin 4) {f g : Fin 4} (hfg : (f = 0 ∧ g = 1) ∨ (f = 1 ∧ g = 0))
    (q : FVec Ideal S128x64 .bf16) (k₀ v₀ k₁ v₁ : Vec Ideal S1x64x128 .bf16)
    (hq : ∀ i d, q (ix2 i d) = ∑ e : Fin 512, x (ix3 b i e) * w (ix2 e (Soft.col h d)))
    (hk₀ : ∀ d j, k₀ (ix3 0 d j) = k (ix4 b (Soft.key f j) h d)) (hv₀ : ∀ d j, v₀ (ix3 0 d j) = v (ix4 b (Soft.key f j) h d))
    (hk₁ : ∀ d j, k₁ (ix3 0 d j) = k (ix4 b (Soft.key g j) h d)) (hv₁ : ∀ d j, v₁ (ix3 0 d j) = v (ix4 b (Soft.key g j) h d))
    (i : Fin 128) (d : Fin 64) :
    headOf (BitVec.ofNat 32 (128 * f.val)) (BitVec.ofNat 32 (128 * g.val)) q k₀ v₀ k₁ v₁ (ix2 i d)
      = Ref.mixed v (Ref.shares (Ref.weights (Ref.scores x w k))) (ix3 b i (Soft.col h d)) := by
  rw [headOf_apply, Ref.mixed_soft]
  have hseen : ∀ J : Fin 512, Near.near i.val J.val = 1#1 → Ref.scores x w k (ix4 b h i J) ≠ ⊥ := fun J hJ => by
    obtain ⟨r, hr⟩ := product_real hx hw hk b h i J
    rw [Ref.scores_apply, hJ, hr]
    exact EReal.coe_ne_bot r
  have h0 : ∃ j, Ref.scores x w k (ix4 b h i (Soft.key 0 j)) ≠ ⊥ := ⟨i, hseen _ (by
    rw [show (Soft.key 0 i).val = i.val by simp [Soft.key]]; exact Near.near_self i.val)⟩
  have h1 : ∃ j, Ref.scores x w k (ix4 b h i (Soft.key 1 j)) ≠ ⊥ := ⟨0, hseen _ (Near.near_128 i)⟩
  have hbot : ∀ J : Fin 512, 256 ≤ J.val → Ref.scores x w k (ix4 b h i J) = ⊥ := fun J hJ => by
    rw [Ref.scores_apply, Near.far i J hJ]
    rfl
  have htop : ∀ J : Fin 512, Ref.scores x w k (ix4 b h i J) ≠ ⊤ := fun J => by
    obtain ⟨r, hr⟩ := product_real hx hw hk b h i J
    rw [Ref.scores_apply, hr]
    unfold Scalar.select
    split
    · exact EReal.coe_ne_top r
    · exact bot_ne_top
  have hf : (∃ j, Ref.scores x w k (ix4 b h i (Soft.key f j)) ≠ ⊥) ∧ ∃ j, Ref.scores x w k (ix4 b h i (Soft.key g j)) ≠ ⊥ := by
    rcases hfg with ⟨rfl, rfl⟩ | ⟨rfl, rfl⟩
    · exact ⟨h0, h1⟩
    · exact ⟨h1, h0⟩
  rw [← Soft.merge_key (fun J => Ref.scores x w k (ix4 b h i J)) (fun J => v (ix4 b J h d)) hfg hbot htop hf.1 hf.2]
  simp only [hq, hk₀, hv₀, hk₁, hv₁, Ref.scores_apply]

/-! ## The result -/

/-- What the devices hold of the whole arrays: copies of the inputs and projections, and a block each of the keys and values. -/
structure Holds : Prop where
  x : ∀ c, argX m c = x
  w : ∀ c, argW m c = w
  k : ∀ (c : Dev nD) (b : Fin 2) (j : Fin 128) (h : Fin 4) (d : Fin 64), argK m c (ix4 b j h d) = k (ix4 b (Soft.key c j) h d)
  v : ∀ (c : Dev nD) (b : Fin 2) (j : Fin 128) (h : Fin 4) (d : Fin 64), argV m c (ix4 b j h d) = v (ix4 b (Soft.key c j) h d)
  o : ∀ c, argO m c = o

variable {m x w k v o}

/-- The load of 64 rows of a slot of the gathered buffer, from row `r`. -/
abbrev load (c : Dev nD) (s r : ℕ) (hb : ∀ a, (![s, r, 0] : Fin 3 → ℕ) a + S1x64x128.size a ≤ S2x1024x128.size a) : Vec Ideal S1x64x128 .bf16 :=
  gM.view.readAt (Elt Ideal) (Rect.unit (s := S2x1024x128) ![s, r, 0] S1x64x128.size hb).toLoadRect (gV m c)

/-- A head that loads its keys from row `64 (4 b + h)` of each slot, and its values from 512 rows on, is the reference's. -/
theorem head_loads (H : Holds m x w k v o) (hx : ∀ i, ∃ r : ℝ, x i = r) (hw : ∀ i, ∃ r : ℝ, w i = r) (hk : ∀ i, ∃ r : ℝ, k i = r)
    (c : Dev nD) (b : Fin 2) (h : Fin 4) (r r' : ℕ) (hr : r = 64 * (4 * b.val + h.val)) (hr' : r' = 512 + 64 * (4 * b.val + h.val))
    (q : FVec Ideal S128x64 .bf16) (hq : ∀ i d, q (ix2 i d) = ∑ e : Fin 512, x (ix3 b i e) * w (ix2 e (Soft.col h d)))
    (p₀ p₁ p₂ p₃) (i : Fin 128) (d : Fin 64) :
    headOf (V40 c) (V41 c) q (load (m := m) c 0 r p₀) (load (m := m) c 0 r' p₁) (load (m := m) c 1 r p₂) (load (m := m) c 1 r' p₃) (ix2 i d)
      = Ref.mixed v (Ref.shares (Ref.weights (Ref.scores x w k))) (ix3 b i (Soft.col h d)) := by
  rw [V40_eq, V41_eq]
  exact head_eq v hx hw hk b h (srcs c) q _ _ _ _ hq
    (fun d j => (load_key m c 0 b h r hr p₀ 0 d j).trans (H.k _ _ _ _ _))
    (fun d j => (load_val m c 0 b h r' hr' p₁ 0 d j).trans (H.v _ _ _ _ _))
    (fun d j => (load_key m c 1 b h r hr p₂ 0 d j).trans (H.k _ _ _ _ _))
    (fun d j => (load_val m c 1 b h r' hr' p₃ 0 d j).trans (H.v _ _ _ _ _)) i d

/-- Four heads side by side hold what each of them holds. -/
theorem row_eq {h₀ h₁ h₂ h₃ : FVec Ideal S128x64 .f32} (T : Fin 4 → Fin 128 → Fin 64 → EReal)
    (e₀ : ∀ i d, h₀ (ix2 i d) = T 0 i d) (e₁ : ∀ i d, h₁ (ix2 i d) = T 1 i d) (e₂ : ∀ i d, h₂ (ix2 i d) = T 2 i d)
    (e₃ : ∀ i d, h₃ (ix2 i d) = T 3 i d) (i : Fin 128) (h : Fin 4) (d : Fin 64) :
    rowOf h₀ h₁ h₂ h₃ (ix2 i (Soft.col h d)) = T h i d := by
  refine (rowOf_apply ![h₀, h₁, h₂, h₃] i h d).trans ?_
  match h with
  | 0 => exact e₀ i d
  | 1 => exact e₁ i d
  | 2 => exact e₂ i d
  | 3 => exact e₃ i d

/-- The heads of batch 0 are the reference's. -/
theorem heads0_apply (H : Holds m x w k v o) (hx : ∀ i, ∃ r : ℝ, x i = r) (hw : ∀ i, ∃ r : ℝ, w i = r) (hk : ∀ i, ∃ r : ℝ, k i = r)
    (c : Dev nD) (i : Fin 128) (h : Fin 4) (d : Fin 64) :
    heads0 m c (ix2 i (Soft.col h d)) = Ref.mixed v (Ref.shares (Ref.weights (Ref.scores x w k))) (ix3 0 i (Soft.col h d)) := by
  have hq : ∀ (i : Fin 128) (a : Fin 256), V24 m c (ix2 i a) = ∑ e : Fin 512, x (ix3 0 i e) * w (ix2 e a) := fun i a => by
    rw [V24_apply, H.x, H.w]
  exact row_eq (fun h i d => Ref.mixed v (Ref.shares (Ref.weights (Ref.scores x w k))) (ix3 0 i (Soft.col h d)))
    (head_loads H hx hw hk c 0 0 0 512 rfl rfl _ (fun i d => (cut0_apply _ i d).trans (hq i _)) _ _ _ _)
    (head_loads H hx hw hk c 0 1 64 576 rfl rfl _ (fun i d => (cut1_apply _ i d).trans (hq i _)) _ _ _ _)
    (head_loads H hx hw hk c 0 2 128 640 rfl rfl _ (fun i d => (cut2_apply _ i d).trans (hq i _)) _ _ _ _)
    (head_loads H hx hw hk c 0 3 192 704 rfl rfl _ (fun i d => (cut3_apply _ i d).trans (hq i _)) _ _ _ _) i h d

/-- The heads of batch 1 likewise. -/
theorem heads1_apply (H : Holds m x w k v o) (hx : ∀ i, ∃ r : ℝ, x i = r) (hw : ∀ i, ∃ r : ℝ, w i = r) (hk : ∀ i, ∃ r : ℝ, k i = r)
    (c : Dev nD) (i : Fin 128) (h : Fin 4) (d : Fin 64) :
    heads1 m c (ix2 i (Soft.col h d)) = Ref.mixed v (Ref.shares (Ref.weights (Ref.scores x w k))) (ix3 1 i (Soft.col h d)) := by
  have hq : ∀ (i : Fin 128) (a : Fin 256), V30 m c (ix2 i a) = ∑ e : Fin 512, x (ix3 1 i e) * w (ix2 e a) := fun i a => by
    rw [V30_apply, H.x, H.w]
  exact row_eq (fun h i d => Ref.mixed v (Ref.shares (Ref.weights (Ref.scores x w k))) (ix3 1 i (Soft.col h d)))
    (head_loads H hx hw hk c 1 0 256 768 rfl rfl _ (fun i d => (cut0_apply _ i d).trans (hq i _)) _ _ _ _)
    (head_loads H hx hw hk c 1 1 320 832 rfl rfl _ (fun i d => (cut1_apply _ i d).trans (hq i _)) _ _ _ _)
    (head_loads H hx hw hk c 1 2 384 896 rfl rfl _ (fun i d => (cut2_apply _ i d).trans (hq i _)) _ _ _ _)
    (head_loads H hx hw hk c 1 3 448 960 rfl rfl _ (fun i d => (cut3_apply _ i d).trans (hq i _)) _ _ _ _) i h d

/-- Every column is some column of some head. -/
theorem col_surj (a : Fin 256) : ∃ (h : Fin 4) (d : Fin 64), a = Soft.col h d :=
  ⟨⟨a.val / 64, by omega⟩, ⟨a.val % 64, by omega⟩, Fin.ext (by show a.val = 64 * (a.val / 64) + a.val % 64; omega)⟩

/-- Two sums over the columns are equal that are equal at every head's columns. -/
theorem sum_cols {f g : Fin 256 → EReal} (e : ∀ (h : Fin 4) (d : Fin 64), f (Soft.col h d) = g (Soft.col h d)) :
    ∑ a, f a = ∑ a, g a :=
  Finset.sum_congr rfl fun a _ => by obtain ⟨h, d, rfl⟩ := col_surj a; exact e h d

/-- What every device ends with is the reference's result of the whole arrays. -/
theorem outV_eq (H : Holds m x w k v o) (hx : ∀ i, ∃ r : ℝ, x i = r) (hw : ∀ i, ∃ r : ℝ, w i = r) (hk : ∀ i, ∃ r : ℝ, k i = r)
    (c : Dev nD) : (outV m c : FVec Ideal S2x128x512 .f32) = Ref.result x w k v o := by
  funext j
  obtain ⟨b, i, n, rfl⟩ : ∃ (b : Fin 2) (i : Fin 128) (n : Fin 512), j = ix3 b i n :=
    ⟨j 0, j 1, j 2, by funext a; fin_cases a <;> rfl⟩
  have ho : ∀ a : Fin 256, argO m c (ix2 a n) = o (ix2 a n) := fun a => by rw [H.o]
  rw [Ref.result_apply]
  match b with
  | 0 =>
    have e : (outV m c : FVec Ideal S2x128x512 .f32) (ix3 0 i n) = k0_pay1 (heads0 m c) (V506 m c) (ix3 0 i n) := rfl
    refine e.trans ((pay1_apply _ _ _ _ _).trans (sum_cols fun h d => ?_))
    rw [heads0_apply H hx hw hk, V506_apply, ho]
  | 1 =>
    have e : (outV m c : FVec Ideal S2x128x512 .f32) (ix3 1 i n) = k0_pay1 (heads1 m c) (V550 m c) (ix3 0 i n) := rfl
    refine e.trans ((pay1_apply _ _ _ _ _).trans (sum_cols fun h d => ?_))
    rw [heads1_apply H hx hw hk, V550_apply, ho]

end Cert.Swa

end
-- ==== Proof.Algebraic.lean ====
/-
# `Algebraic`: the ideal kernel computes the reference's result

The precondition gives that the inputs, the projection and the keys are real; the layout of the arguments gives what each device's
block holds; `Value` gives the result.
-/
module

public import proofs.«01_k».proof.Defs
public import proofs.«01_k».proof.Proof.Value
public import proofs.«01_k».proof.Proof.Gen.ReferenceIdeal
public import proofs.«01_k».proof.Proof.Gen.ReferenceIdeal.Run
public import Idealize.ShloMosaic.Lib.Layout

@[expose] public section

noncomputable section

namespace Cert.Algebraic

open Idealize.ShloMosaic Idealize.SL.Sem

/-! ## The precondition -/

/-- The precondition's shape relations, over one device's blocks. -/
theorem facts_kernel : Cert.Pre_finite_scores_KernelIdeal.Facts := ⟨by decide, by decide, by decide⟩

/-- And over the whole arrays. -/
theorem facts_reference : Cert.Pre_finite_scores_ReferenceIdeal.Facts := ⟨by decide, by decide, by decide⟩

/-- The float word of infinity is `⊤`. -/
theorem ofBits_top : Ideal.ofBits .f32 0x7F800000#32 = ⊤ := by
  simp [Ideal.ofBits, Ideal.ieee]

/-- An extended real of absolute value below `⊤` is real. -/
theorem real_of_abs {a : EReal} (h : Ideal.cmp .olt (max a (-a)) (Ideal.ofBits .f32 0x7F800000#32) = 1#1) : ∃ r : ℝ, a = r := by
  rw [ofBits_top] at h
  induction a with
  | bot => simp [Ideal.cmp] at h
  | coe r => exact ⟨r, rfl⟩
  | top => simp [Ideal.cmp] at h

/-- The argument arrays that the precondition speaks of are real on every device. -/
theorem real_of_pre (m : (ℓ : Loc Cert.KernelIdeal.nD Cert.KernelIdeal.τ Cert.KernelIdeal.sig) → Buf (Elt Ideal) ℓ)
    (h : Cert.Pre_KernelIdeal_finite_scores_KernelIdeal (hPre_finite_scores_KernelIdeal := facts_kernel) m) (c : Dev Cert.KernelIdeal.nD) :
    (∀ i, ∃ r : ℝ, Swa.argX m c i = r) ∧ (∀ i, ∃ r : ℝ, Swa.argW m c i = r) ∧ ∀ i, ∃ r : ℝ, Swa.argK m c i = r :=
  ⟨fun i => real_of_abs (congrFun (h c).1 i), fun i => real_of_abs (congrFun (h c).2.1 i),
    fun i => real_of_abs (congrFun (h c).2.2 i)⟩

/-! ## The layout -/

/-- Row `j` of device `c`'s block is row `j` of block `c` of the whole array. -/
theorem block_eq (k : FVec Ideal Cert.ReferenceIdeal.S2x512x4x64 .f32) (c b j h d) :
    (Layout.block ⟨4, ![2, 128, 4, 64]⟩ ⟨4, ![2, 512, 4, 64]⟩ 1 4 c k : FVec Ideal Cert.KernelIdeal.S2x128x4x64 .f32) (ix4 b j h d)
      = k (ix4 b (Soft.key c j) h d) := by
  refine congrArg k (funext fun a => Fin.ext ?_)
  fin_cases a
  · rfl
  · show c.val * 128 + j.val = 128 * c.val + j.val
    omega
  · rfl
  · rfl

/-- Every key is some row of some block. -/
theorem key_surj (J : Fin 512) : ∃ (c : Fin 4) (j : Fin 128), J = Soft.key c j :=
  ⟨⟨J.val / 128, by omega⟩, ⟨J.val % 128, by omega⟩, Fin.ext (by show J.val = 128 * (J.val / 128) + J.val % 128; omega)⟩

/-! ## The claim -/

/-- The kernel's result on every device is the reference's. -/
theorem algebraic : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := facts_kernel) := by
  intro m g m' g' hp hl
  have H : Swa.Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hl c).1, fun c => (hl c).2.1,
      fun c b j h d => (congrFun (hl c).2.2.1 (ix4 b j h d)).trans (block_eq _ c b j h d),
      fun c b j h d => (congrFun (hl c).2.2.2.1 (ix4 b j h d)).trans (block_eq _ c b j h d),
      fun c => (hl c).2.2.2.2⟩
  have hx := (real_of_pre m hp 0).1
  have hw := (real_of_pre m hp 0).2.1
  rw [H.x] at hx
  rw [H.w] at hw
  have hk : ∀ i : Cert.ReferenceIdeal.S2x512x4x64.Idx, ∃ r : ℝ, @Eq EReal
      (m' (((0 : Dev Cert.ReferenceIdeal.nD).tc : Thread Cert.ReferenceIdeal.nD Cert.ReferenceIdeal.τ).loc Cert.ReferenceIdeal.main_arg2) i)
      r := fun i => by
    obtain ⟨b, J, h, d, rfl⟩ : ∃ (b : Fin 2) (J : Fin 512) (h : Fin 4) (d : Fin 64), i = ix4 b J h d :=
      ⟨i 0, i 1, i 2, i 3, by funext a; fin_cases a <;> rfl⟩
    obtain ⟨c, j, rfl⟩ := key_surj J
    rw [← H.k c b j h d]
    exact (real_of_pre m hp c).2.2 _
  refine ⟨Cert.ReferenceIdeal.Value.res_main_v34 m' 0, ?_, ?_⟩
  · refine (θ_run (Cert.KernelIdeal.defs (F := Ideal)) _ _).mono (fun r h c => ?_) (Swa.run_main (F := Ideal) m g)
    exact ⟨(h.1 c).2.trans ((Swa.outV_eq H hx hw hk c).trans (Ref.res_eq m' 0).symm), (h.1 c).1⟩
  · exact (θ_run (Cert.ReferenceIdeal.defs (F := Ideal)) _ _).mono (fun r h => h 0) (Cert.ReferenceIdeal.Value.run (F := Ideal) m' g')

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Algebraic.facts_kernel, Cert.Algebraic.facts_reference,
  Cert.Frames.frame_kernel, Cert.Frames.frame_ideal, fun m g _ => Cert.Frames.frame_ideal m g trivial,
  Cert.Frames.frame_reference, fun m g _ => Cert.Frames.frame_reference m g trivial, Cert.Frames.mask_named,
  Cert.Algebraic.algebraic⟩

end Cert.Proof

end
